-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  IdealRules.named_const.Statement Cert.KernelIdeal.κ "eps_squared" .f32 0x179ABE15#32 ((5316911940649 / 5316911983139663491615228241121378304 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v24)) (v1 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_v25) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v196) = v0 c
          ∧ r.2.mem ((c.tc : Thread Cert.ReferenceIdeal.nD Cert.ReferenceIdeal.τ).loc Cert.ReferenceIdeal.main_v333) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x96x384x384 : Shape := ⟨4, ![2, 96, 384, 384]⟩
abbrev S2x384x384 : Shape := ⟨3, ![2, 384, 384]⟩
abbrev S64x96x3x3 : Shape := ⟨4, ![64, 96, 3, 3]⟩
abbrev S64 : Shape := ⟨1, ![64]⟩
abbrev S64x64x3x3 : Shape := ⟨4, ![64, 64, 3, 3]⟩
abbrev S32x64x3x3 : Shape := ⟨4, ![32, 64, 3, 3]⟩
abbrev S32 : Shape := ⟨1, ![32]⟩
abbrev S2x32x1x1 : Shape := ⟨4, ![2, 32, 1, 1]⟩
abbrev S2 : Shape := ⟨1, ![2]⟩
abbrev S2x384x384x96 : Shape := ⟨4, ![2, 384, 384, 96]⟩
abbrev S3x96x3x64 : Shape := ⟨4, ![3, 96, 3, 64]⟩
abbrev S288x192 : Shape := ⟨2, ![288, 192]⟩
abbrev S1x64 : Shape := ⟨2, ![1, 64]⟩
abbrev S2x384x384x64 : Shape := ⟨4, ![2, 384, 384, 64]⟩
abbrev S1x32x384x96 : Shape := ⟨4, ![1, 32, 384, 96]⟩
abbrev S1x32x384x64 : Shape := ⟨4, ![1, 32, 384, 64]⟩
abbrev S34x384x96 : Shape := ⟨3, ![34, 384, 96]⟩
abbrev S32x384x96 : Shape := ⟨3, ![32, 384, 96]⟩
abbrev S1x384x96 : Shape := ⟨3, ![1, 384, 96]⟩
abbrev S1x1x384x96 : Shape := ⟨4, ![1, 1, 384, 96]⟩
abbrev S32x384x288 : Shape := ⟨3, ![32, 384, 288]⟩
abbrev S12288x288 : Shape := ⟨2, ![12288, 288]⟩
abbrev S12288x192 : Shape := ⟨2, ![12288, 192]⟩
abbrev S32x384x192 : Shape := ⟨3, ![32, 384, 192]⟩
abbrev S32x384x64 : Shape := ⟨3, ![32, 384, 64]⟩
abbrev S32x1x64 : Shape := ⟨3, ![32, 1, 64]⟩
abbrev S32x383x64 : Shape := ⟨3, ![32, 383, 64]⟩
abbrev S1x1x64 : Shape := ⟨3, ![1, 1, 64]⟩
abbrev S3x64x3x64 : Shape := ⟨4, ![3, 64, 3, 64]⟩
abbrev S192x192 : Shape := ⟨2, ![192, 192]⟩
abbrev S34x384x64 : Shape := ⟨3, ![34, 384, 64]⟩
abbrev S1x384x64 : Shape := ⟨3, ![1, 384, 64]⟩
abbrev S1x1x384x64 : Shape := ⟨4, ![1, 1, 384, 64]⟩
abbrev S2x32 : Shape := ⟨2, ![2, 32]⟩
abbrev S3x64x3x32 : Shape := ⟨4, ![3, 64, 3, 32]⟩
abbrev S192x96 : Shape := ⟨2, ![192, 96]⟩
abbrev S1x32 : Shape := ⟨2, ![1, 32]⟩
abbrev S1x32x384 : Shape := ⟨3, ![1, 32, 384]⟩
abbrev S12288x96 : Shape := ⟨2, ![12288, 96]⟩
abbrev S32x384x32 : Shape := ⟨3, ![32, 384, 32]⟩
abbrev S32x1x32 : Shape := ⟨3, ![32, 1, 32]⟩
abbrev S32x383x32 : Shape := ⟨3, ![32, 383, 32]⟩
abbrev S1x1x32 : Shape := ⟨3, ![1, 1, 32]⟩
abbrev S32x384 : Shape := ⟨2, ![32, 384]⟩
abbrev S1 : Shape := ⟨1, ![1]⟩
abbrev S2x1x384x384 : Shape := ⟨4, ![2, 1, 384, 384]⟩
abbrev S2x2x384x384 : Shape := ⟨4, ![2, 2, 384, 384]⟩
abbrev S2x2x2 : Shape := ⟨3, ![2, 2, 2]⟩
abbrev S1x384x384 : Shape := ⟨3, ![1, 384, 384]⟩
abbrev S1x2x2 : Shape := ⟨3, ![1, 2, 2]⟩
abbrev S384x384 : Shape := ⟨2, ![384, 384]⟩
abbrev S383x384 : Shape := ⟨2, ![383, 384]⟩
abbrev S1x384 : Shape := ⟨2, ![1, 384]⟩
abbrev S384x383 : Shape := ⟨2, ![384, 383]⟩
abbrev S384x1 : Shape := ⟨2, ![384, 1]⟩
abbrev S1x1x1 : Shape := ⟨3, ![1, 1, 1]⟩

abbrev nBuf : Space → Nat
  | .hbm => 37
  | .vmem => 43
  | .smem => 3
  | _ => 0

abbrev bufTy : (tb : Table) → Fin (tcTables nBuf tb) → BufTy
  | .hbm, ⟨0, _⟩ => ⟨S2x96x384x384, .f32⟩
  | .hbm, ⟨1, _⟩ => ⟨S2x384x384, .i32⟩
  | .hbm, ⟨2, _⟩ => ⟨S64x96x3x3, .f32⟩
  | .hbm, ⟨3, _⟩ => ⟨S64, .f32⟩
  | .hbm, ⟨4, _⟩ => ⟨S64x64x3x3, .f32⟩
  | .hbm, ⟨5, _⟩ => ⟨S64, .f32⟩
  | .hbm, ⟨6, _⟩ => ⟨S32x64x3x3, .f32⟩
  | .hbm, ⟨7, _⟩ => ⟨S32, .f32⟩
  | .hbm, ⟨8, _⟩ => ⟨S2x32x1x1, .f32⟩
  | .hbm, ⟨9, _⟩ => ⟨S2, .f32⟩
  | .hbm, ⟨10, _⟩ => ⟨S2x96x384x384, .bf16⟩
  | .hbm, ⟨11, _⟩ => ⟨S2x384x384x96, .bf16⟩
  | .hbm, ⟨12, _⟩ => ⟨S3x96x3x64, .f32⟩
  | .hbm, ⟨13, _⟩ => ⟨S288x192, .f32⟩
  | .hbm, ⟨14, _⟩ => ⟨S288x192, .bf16⟩
  | .hbm, ⟨15, _⟩ => ⟨S1x64, .f32⟩
  | .hbm, ⟨16, _⟩ => ⟨S2x384x384x64, .bf16⟩
  | .hbm, ⟨17, _⟩ => ⟨S3x64x3x64, .f32⟩
  | .hbm, ⟨18, _⟩ => ⟨S192x192, .f32⟩
  | .hbm, ⟨19, _⟩ => ⟨S192x192, .bf16⟩
  | .hbm, ⟨20, _⟩ => ⟨S1x64, .f32⟩
  | .hbm, ⟨21, _⟩ => ⟨S2x384x384x64, .bf16⟩
  | .hbm, ⟨22, _⟩ => ⟨S2x32, .f32⟩
  | .hbm, ⟨23, _⟩ => ⟨S2x32, .bf16⟩
  | .hbm, ⟨24, _⟩ => ⟨S2x32, .f32⟩
  | .hbm, ⟨25, _⟩ => ⟨S3x64x3x32, .f32⟩
  | .hbm, ⟨26, _⟩ => ⟨S192x96, .f32⟩
  | .hbm, ⟨27, _⟩ => ⟨S192x96, .bf16⟩
  | .hbm, ⟨28, _⟩ => ⟨S1x32, .f32⟩
  | .hbm, ⟨29, _⟩ => ⟨S1x32, .f32⟩
  | .hbm, ⟨30, _⟩ => ⟨S1x32, .f32⟩
  | .hbm, ⟨31, _⟩ => ⟨S2x384x384, .f32⟩
  | .hbm, ⟨32, _⟩ => ⟨S2x384x384, .f32⟩
  | .hbm, ⟨33, _⟩ => ⟨S2x1x384x384, .f32⟩
  | .hbm, ⟨34, _⟩ => ⟨S2x1x384x384, .f32⟩
  | .hbm, ⟨35, _⟩ => ⟨S2x2x384x384, .f32⟩
  | .hbm, ⟨36, _⟩ => ⟨S2x2x2, .i32⟩
  | .local _ .vmem, ⟨0, _⟩ => ⟨S1x32x384x96, .bf16⟩
  | .local _ .vmem, ⟨1, _⟩ => ⟨S1x32x384x96, .bf16⟩
  | .local _ .vmem, ⟨2, _⟩ => ⟨S1x32x384x96, .bf16⟩
  | .local _ .vmem, ⟨3, _⟩ => ⟨S1x32x384x96, .bf16⟩
  | .local _ .vmem, ⟨4, _⟩ => ⟨S1x32x384x96, .bf16⟩
  | .local _ .vmem, ⟨5, _⟩ => ⟨S1x32x384x96, .bf16⟩
  | .local _ .vmem, ⟨6, _⟩ => ⟨S288x192, .bf16⟩
  | .local _ .vmem, ⟨7, _⟩ => ⟨S1x64, .f32⟩
  | .local _ .vmem, ⟨8, _⟩ => ⟨S1x32x384x64, .bf16⟩
  | .local _ .vmem, ⟨9, _⟩ => ⟨S1x32x384x64, .bf16⟩
  | .local _ .vmem, ⟨10, _⟩ => ⟨S34x384x96, .bf16⟩
  | .local _ .vmem, ⟨11, _⟩ => ⟨S1x32x384x64, .bf16⟩
  | .local _ .vmem, ⟨12, _⟩ => ⟨S1x32x384x64, .bf16⟩
  | .local _ .vmem, ⟨13, _⟩ => ⟨S1x32x384x64, .bf16⟩
  | .local _ .vmem, ⟨14, _⟩ => ⟨S1x32x384x64, .bf16⟩
  | .local _ .vmem, ⟨15, _⟩ => ⟨S1x32x384x64, .bf16⟩
  | .local _ .vmem, ⟨16, _⟩ => ⟨S1x32x384x64, .bf16⟩
  | .local _ .vmem, ⟨17, _⟩ => ⟨S192x192, .bf16⟩
  | .local _ .vmem, ⟨18, _⟩ => ⟨S1x64, .f32⟩
  | .local _ .vmem, ⟨19, _⟩ => ⟨S1x32x384x64, .bf16⟩
  | .local _ .vmem, ⟨20, _⟩ => ⟨S1x32x384x64, .bf16⟩
  | .local _ .vmem, ⟨21, _⟩ => ⟨S34x384x64, .bf16⟩
  | .local _ .vmem, ⟨22, _⟩ => ⟨S1x32x384x64, .bf16⟩
  | .local _ .vmem, ⟨23, _⟩ => ⟨S1x32x384x64, .bf16⟩
  | .local _ .vmem, ⟨24, _⟩ => ⟨S1x32x384x64, .bf16⟩
  | .local _ .vmem, ⟨25, _⟩ => ⟨S1x32x384x64, .bf16⟩
  | .local _ .vmem, ⟨26, _⟩ => ⟨S1x32x384x64, .bf16⟩
  | .local _ .vmem, ⟨27, _⟩ => ⟨S1x32x384x64, .bf16⟩
  | .local _ .vmem, ⟨28, _⟩ => ⟨S192x96, .bf16⟩
  | .local _ .vmem, ⟨29, _⟩ => ⟨S1x32, .f32⟩
  | .local _ .vmem, ⟨30, _⟩ => ⟨S1x32, .f32⟩
  | .local _ .vmem, ⟨31, _⟩ => ⟨S1x32, .f32⟩
  | .local _ .vmem, ⟨32, _⟩ => ⟨S1x32x384, .f32⟩
  | .local _ .vmem, ⟨33, _⟩ => ⟨S1x32x384, .f32⟩
  | .local _ .vmem, ⟨34, _⟩ => ⟨S1x32x384, .f32⟩
  | .local _ .vmem, ⟨35, _⟩ => ⟨S1x32x384, .f32⟩
  | .local _ .vmem, ⟨36, _⟩ => ⟨S34x384x64, .bf16⟩
  | .local _ .vmem, ⟨37, _⟩ => ⟨S1x384x384, .i32⟩
  | .local _ .vmem, ⟨38, _⟩ => ⟨S1x384x384, .i32⟩
  | .local _ .vmem, ⟨39, _⟩ => ⟨S1x384x384, .f32⟩
  | .local _ .vmem, ⟨40, _⟩ => ⟨S1x384x384, .f32⟩
  | .local _ .vmem, ⟨41, _⟩ => ⟨S1x384x384, .f32⟩
  | .local _ .vmem, ⟨42, _⟩ => ⟨S1x384x384, .f32⟩
  | .local _ .smem, ⟨0, _⟩ => ⟨S2, .f32⟩
  | .local _ .smem, ⟨1, _⟩ => ⟨S1x2x2, .i32⟩
  | .local _ .smem, ⟨2, _⟩ => ⟨S1x2x2, .i32⟩
  | _, _ => ⟨S2x96x384x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21_0 : Ref sig .tc := ⟨.hbm, 31, rfl⟩
abbrev main_v21_1 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg5_1 : Ref sig .tc := ⟨.vmem, 20, rfl⟩
abbrev cc1_scratch0 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg8_0 : Ref sig .tc := ⟨.vmem, 32, rfl⟩
abbrev cc2_stg8_1 : Ref sig .tc := ⟨.vmem, 33, rfl⟩
abbrev cc2_stg9_0 : Ref sig .tc := ⟨.vmem, 34, rfl⟩
abbrev cc2_stg9_1 : Ref sig .tc := ⟨.vmem, 35, rfl⟩
abbrev cc2_scratch0 : Ref sig .tc := ⟨.vmem, 36, rfl⟩
abbrev cc3_stg0_0 : Ref sig .tc := ⟨.vmem, 37, rfl⟩
abbrev cc3_stg0_1 : Ref sig .tc := ⟨.vmem, 38, rfl⟩
abbrev cc3_stg1_0 : Ref sig .tc := ⟨.vmem, 39, rfl⟩
abbrev cc3_stg1_1 : Ref sig .tc := ⟨.vmem, 40, rfl⟩
abbrev cc3_stg2_0 : Ref sig .tc := ⟨.vmem, 41, rfl⟩
abbrev cc3_stg2_1 : Ref sig .tc := ⟨.vmem, 42, rfl⟩
abbrev cc2_stg7_0 : Ref sig .tc := ⟨.smem, 0, rfl⟩
abbrev cc3_stg3_0 : Ref sig .tc := ⟨.smem, 1, rfl⟩
abbrev cc3_stg3_1 : Ref sig .tc := ⟨.smem, 2, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem4_0 : DmaSem sig := 27
abbrev cc2_sem5_0 : DmaSem sig := 28
abbrev cc2_sem6_0 : DmaSem sig := 29
abbrev cc2_sem7_0 : DmaSem sig := 30
abbrev cc2_sem8_0 : DmaSem sig := 31
abbrev cc2_sem8_1 : DmaSem sig := 32
abbrev cc2_sem9_0 : DmaSem sig := 33
abbrev cc2_sem9_1 : DmaSem sig := 34
abbrev cc3_sem0_0 : DmaSem sig := 35
abbrev cc3_sem0_1 : DmaSem sig := 36
abbrev cc3_sem1_0 : DmaSem sig := 37
abbrev cc3_sem1_1 : DmaSem sig := 38
abbrev cc3_sem2_0 : DmaSem sig := 39
abbrev cc3_sem2_1 : DmaSem sig := 40
abbrev cc3_sem3_0 : DmaSem sig := 41
abbrev cc3_sem3_1 : DmaSem sig := 42

abbrev nD : Nat := 1
abbrev τ : Topo := Topo.v7x

variable {F : FTy → Type} [FloatOps F]

abbrev grid0 : Pipeline.Grid := ⟨2, ![2, 12], ![false, false]⟩

def cc0_transform_0 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![arg0.toNat, v1.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c11_i32 : BitVec 32 := 11#32
  let v1 : BitVec 32 := Scalar.minsi v0 c11_i32
  let c0_i32 : BitVec 32 := 0#32
  let c0_i32_0 : BitVec 32 := 0#32
  let c0_i32_1 : BitVec 32 := 0#32
  ![arg0.toNat, v1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x32x384x96 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x384x96 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x384x96 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S288x192 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x32x384x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![2, 12], ![false, false]⟩

def cc1_transform_0 (i : grid1.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![arg0.toNat, v1.toNat, c0_i32_0.toNat, c0_i32_1.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c11_i32 : BitVec 32 := 11#32
  let v1 : BitVec 32 := Scalar.minsi v0 c11_i32
  let c0_i32 : BitVec 32 := 0#32
  let c0_i32_0 : BitVec 32 := 0#32
  let c0_i32_1 : BitVec 32 := 0#32
  ![arg0.toNat, v1.toNat, c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x32x384x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x32x384x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x32x384x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S192x192 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x32x384x64 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev grid2 : Pipeline.Grid := ⟨2, ![2, 12], ![false, false]⟩

def cc2_transform_0 (i : grid2.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![arg0.toNat, v1.toNat, c0_i32_0.toNat, c0_i32_1.toNat]

def cc2_transform_1 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc2_transform_2 (i : grid2.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c11_i32 : BitVec 32 := 11#32
  let v1 : BitVec 32 := Scalar.minsi v0 c11_i32
  let c0_i32 : BitVec 32 := 0#32
  let c0_i32_0 : BitVec 32 := 0#32
  let c0_i32_1 : BitVec 32 := 0#32
  ![arg0.toNat, v1.toNat, c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_8 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_9 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x32x384x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x32x384x64 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x32x384x64 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 1 → Memref sig .tc .vmem S192x96 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S1x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S1x32 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 1 → Memref sig .tc .vmem S1x32 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev stage2_7 : Fin 1 → Memref sig .tc .smem S2 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false, false]

abbrev stage2_8 : Fin 2 → Memref sig .tc .vmem S1x32x384 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true, true]

abbrev stage2_9 : Fin 2 → Memref sig .tc .vmem S1x32x384 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true, true]

abbrev grid3 : Pipeline.Grid := ⟨1, ![2], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x384x384 .i32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x384x384 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x384x384 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .smem S1x2x2 .i32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]
-- ==== KernelIdeal.lean ====
variable {F : FTy → Type} [FloatOps F] [Named F]
def κ : String → Option EReal := fun
  | "eps_squared" => some ((5316911940649 / 5316911983139663491615228241121378304 : ℝ) : EReal)
  | _ => none
-- ==== ReferenceIdeal.lean ====
abbrev S2x96x384x384 : Shape := ⟨4, ![2, 96, 384, 384]⟩
abbrev S2x384x384 : Shape := ⟨3, ![2, 384, 384]⟩
abbrev S64x96x3x3 : Shape := ⟨4, ![64, 96, 3, 3]⟩
abbrev S64 : Shape := ⟨1, ![64]⟩
abbrev S64x64x3x3 : Shape := ⟨4, ![64, 64, 3, 3]⟩
abbrev S32x64x3x3 : Shape := ⟨4, ![32, 64, 3, 3]⟩
abbrev S32 : Shape := ⟨1, ![32]⟩
abbrev S2x32x1x1 : Shape := ⟨4, ![2, 32, 1, 1]⟩
abbrev S2 : Shape := ⟨1, ![2]⟩
abbrev S_ : Shape := ⟨0, ![]⟩
abbrev S2x96x386x386 : Shape := ⟨4, ![2, 96, 386, 386]⟩
abbrev S64x96x1x1 : Shape := ⟨4, ![64, 96, 1, 1]⟩
abbrev S64x96 : Shape := ⟨2, ![64, 96]⟩
abbrev S64x2x384x384 : Shape := ⟨4, ![64, 2, 384, 384]⟩
abbrev S2x64x384x384 : Shape := ⟨4, ![2, 64, 384, 384]⟩
abbrev S1x64x1x1 : Shape := ⟨4, ![1, 64, 1, 1]⟩
abbrev S2x64x386x386 : Shape := ⟨4, ![2, 64, 386, 386]⟩
abbrev S64x64x1x1 : Shape := ⟨4, ![64, 64, 1, 1]⟩
abbrev S64x64 : Shape := ⟨2, ![64, 64]⟩
abbrev S32x64x1x1 : Shape := ⟨4, ![32, 64, 1, 1]⟩
abbrev S32x64 : Shape := ⟨2, ![32, 64]⟩
abbrev S32x2x384x384 : Shape := ⟨4, ![32, 2, 384, 384]⟩
abbrev S2x32x384x384 : Shape := ⟨4, ![2, 32, 384, 384]⟩
abbrev S1x32x1x1 : Shape := ⟨4, ![1, 32, 1, 1]⟩
abbrev S2x32 : Shape := ⟨2, ![2, 32]⟩
abbrev S2x2x384x384 : Shape := ⟨4, ![2, 2, 384, 384]⟩
abbrev S1x2x1x1 : Shape := ⟨4, ![1, 2, 1, 1]⟩
abbrev S2x1x384x384 : Shape := ⟨4, ![2, 1, 384, 384]⟩
abbrev S1x384x384 : Shape := ⟨3, ![1, 384, 384]⟩
abbrev S384x384 : Shape := ⟨2, ![384, 384]⟩
abbrev S1x1x384x384 : Shape := ⟨4, ![1, 1, 384, 384]⟩
abbrev S384 : Shape := ⟨1, ![384]⟩
abbrev S147456 : Shape := ⟨1, ![147456]⟩
abbrev S147456x1 : Shape := ⟨2, ![147456, 1]⟩
abbrev S1 : Shape := ⟨1, ![1]⟩
abbrev S1x2 : Shape := ⟨2, ![1, 2]⟩
abbrev S2x2 : Shape := ⟨2, ![2, 2]⟩
abbrev S1x2x2 : Shape := ⟨3, ![1, 2, 2]⟩
abbrev S2x2x2 : Shape := ⟨3, ![2, 2, 2]⟩

abbrev nBuf : Space → Nat
  | .hbm => 550
  | .vmem => 0
  | .smem => 0
  | _ => 0

abbrev hbmTy0_0 (i : Nat) : BufTy := match i % 128 with
  | 0 => ⟨S2x96x384x384, .f32⟩
  | 1 => ⟨S2x384x384, .i32⟩
  | 2 => ⟨S64x96x3x3, .f32⟩
  | 3 => ⟨S64, .f32⟩
  | 4 => ⟨S64x64x3x3, .f32⟩
  | 5 => ⟨S64, .f32⟩
  | 6 => ⟨S32x64x3x3, .f32⟩
  | 7 => ⟨S32, .f32⟩
  | 8 => ⟨S2x32x1x1, .f32⟩
  | 9 => ⟨S2, .f32⟩
  | 10 => ⟨S_, .i32⟩
  | 11 => ⟨S_, .f32⟩
  | 12 => ⟨S2x96x386x386, .f32⟩
  | 13 => ⟨S2x96x384x384, .f32⟩
  | 14 => ⟨S64x96x1x1, .f32⟩
  | 15 => ⟨S64x96, .f32⟩
  | 16 => ⟨S64x2x384x384, .f32⟩
  | 17 => ⟨S2x64x384x384, .f32⟩
  | 18 => ⟨S_, .f32⟩
  | 19 => ⟨S2x64x384x384, .f32⟩
  | 20 => ⟨S2x64x384x384, .f32⟩
  | 21 => ⟨S2x96x384x384, .f32⟩
  | 22 => ⟨S64x96x1x1, .f32⟩
  | 23 => ⟨S64x96, .f32⟩
  | 24 => ⟨S64x2x384x384, .f32⟩
  | 25 => ⟨S2x64x384x384, .f32⟩
  | 26 => ⟨S2x64x384x384, .f32⟩
  | 27 => ⟨S2x96x384x384, .f32⟩
  | 28 => ⟨S64x96x1x1, .f32⟩
  | 29 => ⟨S64x96, .f32⟩
  | 30 => ⟨S64x2x384x384, .f32⟩
  | 31 => ⟨S2x64x384x384, .f32⟩
  | 32 => ⟨S2x64x384x384, .f32⟩
  | 33 => ⟨S2x96x384x384, .f32⟩
  | 34 => ⟨S64x96x1x1, .f32⟩
  | 35 => ⟨S64x96, .f32⟩
  | 36 => ⟨S64x2x384x384, .f32⟩
  | 37 => ⟨S2x64x384x384, .f32⟩
  | 38 => ⟨S2x64x384x384, .f32⟩
  | 39 => ⟨S2x96x384x384, .f32⟩
  | 40 => ⟨S64x96x1x1, .f32⟩
  | 41 => ⟨S64x96, .f32⟩
  | 42 => ⟨S64x2x384x384, .f32⟩
  | 43 => ⟨S2x64x384x384, .f32⟩
  | 44 => ⟨S2x64x384x384, .f32⟩
  | 45 => ⟨S2x96x384x384, .f32⟩
  | 46 => ⟨S64x96x1x1, .f32⟩
  | 47 => ⟨S64x96, .f32⟩
  | 48 => ⟨S64x2x384x384, .f32⟩
  | 49 => ⟨S2x64x384x384, .f32⟩
  | 50 => ⟨S2x64x384x384, .f32⟩
  | 51 => ⟨S2x96x384x384, .f32⟩
  | 52 => ⟨S64x96x1x1, .f32⟩
  | 53 => ⟨S64x96, .f32⟩
  | 54 => ⟨S64x2x384x384, .f32⟩
  | 55 => ⟨S2x64x384x384, .f32⟩
  | 56 => ⟨S2x64x384x384, .f32⟩
  | 57 => ⟨S2x96x384x384, .f32⟩
  | 58 => ⟨S64x96x1x1, .f32⟩
  | 59 => ⟨S64x96, .f32⟩
  | 60 => ⟨S64x2x384x384, .f32⟩
  | 61 => ⟨S2x64x384x384, .f32⟩
  | 62 => ⟨S2x64x384x384, .f32⟩
  | 63 => ⟨S2x96x384x384, .f32⟩
  | 64 => ⟨S64x96x1x1, .f32⟩
  | 65 => ⟨S64x96, .f32⟩
  | 66 => ⟨S64x2x384x384, .f32⟩
  | 67 => ⟨S2x64x384x384, .f32⟩
  | 68 => ⟨S2x64x384x384, .f32⟩
  | 69 => ⟨S1x64x1x1, .f32⟩
  | 70 => ⟨S2x64x384x384, .f32⟩
  | 71 => ⟨S2x64x384x384, .f32⟩
  | 72 => ⟨S_, .f32⟩
  | 73 => ⟨S2x64x384x384, .f32⟩
  | 74 => ⟨S2x64x384x384, .f32⟩
  | 75 => ⟨S_, .i32⟩
  | 76 => ⟨S_, .f32⟩
  | 77 => ⟨S2x64x386x386, .f32⟩
  | 78 => ⟨S2x64x384x384, .f32⟩
  | 79 => ⟨S64x64x1x1, .f32⟩
  | 80 => ⟨S64x64, .f32⟩
  | 81 => ⟨S64x2x384x384, .f32⟩
  | 82 => ⟨S2x64x384x384, .f32⟩
  | 83 => ⟨S_, .f32⟩
  | 84 => ⟨S2x64x384x384, .f32⟩
  | 85 => ⟨S2x64x384x384, .f32⟩
  | 86 => ⟨S2x64x384x384, .f32⟩
  | 87 => ⟨S64x64x1x1, .f32⟩
  | 88 => ⟨S64x64, .f32⟩
  | 89 => ⟨S64x2x384x384, .f32⟩
  | 90 => ⟨S2x64x384x384, .f32⟩
  | 91 => ⟨S2x64x384x384, .f32⟩
  | 92 => ⟨S2x64x384x384, .f32⟩
  | 93 => ⟨S64x64x1x1, .f32⟩
  | 94 => ⟨S64x64, .f32⟩
  | 95 => ⟨S64x2x384x384, .f32⟩
  | 96 => ⟨S2x64x384x384, .f32⟩
  | 97 => ⟨S2x64x384x384, .f32⟩
  | 98 => ⟨S2x64x384x384, .f32⟩
  | 99 => ⟨S64x64x1x1, .f32⟩
  | 100 => ⟨S64x64, .f32⟩
  | 101 => ⟨S64x2x384x384, .f32⟩
  | 102 => ⟨S2x64x384x384, .f32⟩
  | 103 => ⟨S2x64x384x384, .f32⟩
  | 104 => ⟨S2x64x384x384, .f32⟩
  | 105 => ⟨S64x64x1x1, .f32⟩
  | 106 => ⟨S64x64, .f32⟩
  | 107 => ⟨S64x2x384x384, .f32⟩
  | 108 => ⟨S2x64x384x384, .f32⟩
  | 109 => ⟨S2x64x384x384, .f32⟩
  | 110 => ⟨S2x64x384x384, .f32⟩
  | 111 => ⟨S64x64x1x1, .f32⟩
  | 112 => ⟨S64x64, .f32⟩
  | 113 => ⟨S64x2x384x384, .f32⟩
  | 114 => ⟨S2x64x384x384, .f32⟩
  | 115 => ⟨S2x64x384x384, .f32⟩
  | 116 => ⟨S2x64x384x384, .f32⟩
  | 117 => ⟨S64x64x1x1, .f32⟩
  | 118 => ⟨S64x64, .f32⟩
  | 119 => ⟨S64x2x384x384, .f32⟩
  | 120 => ⟨S2x64x384x384, .f32⟩
  | 121 => ⟨S2x64x384x384, .f32⟩
  | 122 => ⟨S2x64x384x384, .f32⟩
  | 123 => ⟨S64x64x1x1, .f32⟩
  | 124 => ⟨S64x64, .f32⟩
  | 125 => ⟨S64x2x384x384, .f32⟩
  | 126 => ⟨S2x64x384x384, .f32⟩
  | 127 => ⟨S2x64x384x384, .f32⟩
  | _ => ⟨S2x96x384x384, .f32⟩

abbrev hbmTy0_1 (i : Nat) : BufTy := match i % 128 with
  | 0 => ⟨S2x64x384x384, .f32⟩
  | 1 => ⟨S64x64x1x1, .f32⟩
  | 2 => ⟨S64x64, .f32⟩
  | 3 => ⟨S64x2x384x384, .f32⟩
  | 4 => ⟨S2x64x384x384, .f32⟩
  | 5 => ⟨S2x64x384x384, .f32⟩
  | 6 => ⟨S1x64x1x1, .f32⟩
  | 7 => ⟨S2x64x384x384, .f32⟩
  | 8 => ⟨S2x64x384x384, .f32⟩
  | 9 => ⟨S_, .f32⟩
  | 10 => ⟨S2x64x384x384, .f32⟩
  | 11 => ⟨S2x64x384x384, .f32⟩
  | 12 => ⟨S_, .i32⟩
  | 13 => ⟨S_, .f32⟩
  | 14 => ⟨S2x64x386x386, .f32⟩
  | 15 => ⟨S2x64x384x384, .f32⟩
  | 16 => ⟨S32x64x1x1, .f32⟩
  | 17 => ⟨S32x64, .f32⟩
  | 18 => ⟨S32x2x384x384, .f32⟩
  | 19 => ⟨S2x32x384x384, .f32⟩
  | 20 => ⟨S_, .f32⟩
  | 21 => ⟨S2x32x384x384, .f32⟩
  | 22 => ⟨S2x32x384x384, .f32⟩
  | 23 => ⟨S2x64x384x384, .f32⟩
  | 24 => ⟨S32x64x1x1, .f32⟩
  | 25 => ⟨S32x64, .f32⟩
  | 26 => ⟨S32x2x384x384, .f32⟩
  | 27 => ⟨S2x32x384x384, .f32⟩
  | 28 => ⟨S2x32x384x384, .f32⟩
  | 29 => ⟨S2x64x384x384, .f32⟩
  | 30 => ⟨S32x64x1x1, .f32⟩
  | 31 => ⟨S32x64, .f32⟩
  | 32 => ⟨S32x2x384x384, .f32⟩
  | 33 => ⟨S2x32x384x384, .f32⟩
  | 34 => ⟨S2x32x384x384, .f32⟩
  | 35 => ⟨S2x64x384x384, .f32⟩
  | 36 => ⟨S32x64x1x1, .f32⟩
  | 37 => ⟨S32x64, .f32⟩
  | 38 => ⟨S32x2x384x384, .f32⟩
  | 39 => ⟨S2x32x384x384, .f32⟩
  | 40 => ⟨S2x32x384x384, .f32⟩
  | 41 => ⟨S2x64x384x384, .f32⟩
  | 42 => ⟨S32x64x1x1, .f32⟩
  | 43 => ⟨S32x64, .f32⟩
  | 44 => ⟨S32x2x384x384, .f32⟩
  | 45 => ⟨S2x32x384x384, .f32⟩
  | 46 => ⟨S2x32x384x384, .f32⟩
  | 47 => ⟨S2x64x384x384, .f32⟩
  | 48 => ⟨S32x64x1x1, .f32⟩
  | 49 => ⟨S32x64, .f32⟩
  | 50 => ⟨S32x2x384x384, .f32⟩
  | 51 => ⟨S2x32x384x384, .f32⟩
  | 52 => ⟨S2x32x384x384, .f32⟩
  | 53 => ⟨S2x64x384x384, .f32⟩
  | 54 => ⟨S32x64x1x1, .f32⟩
  | 55 => ⟨S32x64, .f32⟩
  | 56 => ⟨S32x2x384x384, .f32⟩
  | 57 => ⟨S2x32x384x384, .f32⟩
  | 58 => ⟨S2x32x384x384, .f32⟩
  | 59 => ⟨S2x64x384x384, .f32⟩
  | 60 => ⟨S32x64x1x1, .f32⟩
  | 61 => ⟨S32x64, .f32⟩
  | 62 => ⟨S32x2x384x384, .f32⟩
  | 63 => ⟨S2x32x384x384, .f32⟩
  | 64 => ⟨S2x32x384x384, .f32⟩
  | 65 => ⟨S2x64x384x384, .f32⟩
  | 66 => ⟨S32x64x1x1, .f32⟩
  | 67 => ⟨S32x64, .f32⟩
  | 68 => ⟨S32x2x384x384, .f32⟩
  | 69 => ⟨S2x32x384x384, .f32⟩
  | 70 => ⟨S2x32x384x384, .f32⟩
  | 71 => ⟨S1x32x1x1, .f32⟩
  | 72 => ⟨S2x32x384x384, .f32⟩
  | 73 => ⟨S2x32x384x384, .f32⟩
  | 74 => ⟨S_, .f32⟩
  | 75 => ⟨S2x32x384x384, .f32⟩
  | 76 => ⟨S2x32x384x384, .f32⟩
  | 77 => ⟨S_, .i32⟩
  | 78 => ⟨S_, .f32⟩
  | 79 => ⟨S2x32x384x384, .f32⟩
  | 80 => ⟨S2x32, .f32⟩
  | 81 => ⟨S2x2x384x384, .f32⟩
  | 82 => ⟨S2x2x384x384, .f32⟩
  | 83 => ⟨S_, .f32⟩
  | 84 => ⟨S2x2x384x384, .f32⟩
  | 85 => ⟨S2x2x384x384, .f32⟩
  | 86 => ⟨S1x2x1x1, .f32⟩
  | 87 => ⟨S2x2x384x384, .f32⟩
  | 88 => ⟨S2x2x384x384, .f32⟩
  | 89 => ⟨S2x2x384x384, .f32⟩
  | 90 => ⟨S_, .f32⟩
  | 91 => ⟨S2x384x384, .f32⟩
  | 92 => ⟨S2x1x384x384, .f32⟩
  | 93 => ⟨S2x1x384x384, .f32⟩
  | 94 => ⟨S_, .f32⟩
  | 95 => ⟨S2x1x384x384, .f32⟩
  | 96 => ⟨S2x1x384x384, .f32⟩
  | 97 => ⟨S2x2x384x384, .f32⟩
  | 98 => ⟨S2x2x384x384, .f32⟩
  | 99 => ⟨S1x384x384, .i32⟩
  | 100 => ⟨S384x384, .i32⟩
  | 101 => ⟨S1x1x384x384, .f32⟩
  | 102 => ⟨S384x384, .f32⟩
  | 103 => ⟨S1x1x384x384, .f32⟩
  | 104 => ⟨S384x384, .f32⟩
  | 105 => ⟨S384, .f32⟩
  | 106 => ⟨S384, .f32⟩
  | 107 => ⟨S384x384, .f32⟩
  | 108 => ⟨S384x384, .f32⟩
  | 109 => ⟨S384x384, .f32⟩
  | 110 => ⟨S_, .i32⟩
  | 111 => ⟨S_, .i32⟩
  | 112 => ⟨S_, .f32⟩
  | 113 => ⟨S384x384, .f32⟩
  | 114 => ⟨S384x384, .f32⟩
  | 115 => ⟨S_, .f32⟩
  | 116 => ⟨S384x384, .f32⟩
  | 117 => ⟨S384x384, .f32⟩
  | 118 => ⟨S384x384, .i32⟩
  | 119 => ⟨S384x384, .f32⟩
  | 120 => ⟨S_, .i32⟩
  | 121 => ⟨S_, .i32⟩
  | 122 => ⟨S_, .f32⟩
  | 123 => ⟨S384x384, .f32⟩
  | 124 => ⟨S384x384, .f32⟩
  | 125 => ⟨S_, .f32⟩
  | 126 => ⟨S384x384, .f32⟩
  | 127 => ⟨S384x384, .f32⟩
  | _ => ⟨S2x96x384x384, .f32⟩

abbrev hbmTy0_2 (i : Nat) : BufTy := match i % 128 with
  | 0 => ⟨S384x384, .i32⟩
  | 1 => ⟨S_, .i32⟩
  | 2 => ⟨S384x384, .i32⟩
  | 3 => ⟨S384x384, .i32⟩
  | 4 => ⟨S384x384, .i32⟩
  | 5 => ⟨S147456, .i32⟩
  | 6 => ⟨S_, .i32⟩
  | 7 => ⟨S384x384, .i32⟩
  | 8 => ⟨S384x384, .i1⟩
  | 9 => ⟨S384x384, .f32⟩
  | 10 => ⟨S147456, .f32⟩
  | 11 => ⟨S_, .f32⟩
  | 12 => ⟨S147456, .f32⟩
  | 13 => ⟨S_, .i32⟩
  | 14 => ⟨S147456, .i32⟩
  | 15 => ⟨S147456, .i1⟩
  | 16 => ⟨S_, .i32⟩
  | 17 => ⟨S147456, .i32⟩
  | 18 => ⟨S147456, .i32⟩
  | 19 => ⟨S147456, .i32⟩
  | 20 => ⟨S147456x1, .i32⟩
  | 21 => ⟨S147456, .f32⟩
  | 22 => ⟨S_, .f32⟩
  | 23 => ⟨S_, .f32⟩
  | 24 => ⟨S147456, .i32⟩
  | 25 => ⟨S_, .f32⟩
  | 26 => ⟨S_, .i32⟩
  | 27 => ⟨S_, .f32⟩
  | 28 => ⟨S_, .i32⟩
  | 29 => ⟨S_, .i32⟩
  | 30 => ⟨S_, .i32⟩
  | 31 => ⟨S_, .i32⟩
  | 32 => ⟨S_, .i1⟩
  | 33 => ⟨S_, .i32⟩
  | 34 => ⟨S_, .i32⟩
  | 35 => ⟨S_, .i32⟩
  | 36 => ⟨S_, .i32⟩
  | 37 => ⟨S_, .i1⟩
  | 38 => ⟨S_, .i32⟩
  | 39 => ⟨S_, .i1⟩
  | 40 => ⟨S_, .i32⟩
  | 41 => ⟨S_, .i1⟩
  | 42 => ⟨S_, .i1⟩
  | 43 => ⟨S_, .i1⟩
  | 44 => ⟨S_, .i32⟩
  | 45 => ⟨S_, .i32⟩
  | 46 => ⟨S_, .i32⟩
  | 47 => ⟨S_, .i32⟩
  | 48 => ⟨S_, .i32⟩
  | 49 => ⟨S_, .i32⟩
  | 50 => ⟨S_, .i32⟩
  | 51 => ⟨S_, .i1⟩
  | 52 => ⟨S_, .i32⟩
  | 53 => ⟨S_, .i32⟩
  | 54 => ⟨S_, .i1⟩
  | 55 => ⟨S_, .i1⟩
  | 56 => ⟨S_, .i32⟩
  | 57 => ⟨S_, .i32⟩
  | 58 => ⟨S_, .i32⟩
  | 59 => ⟨S1, .i32⟩
  | 60 => ⟨S1, .i32⟩
  | 61 => ⟨S2, .i32⟩
  | 62 => ⟨S_, .f32⟩
  | 63 => ⟨S_, .i1⟩
  | 64 => ⟨S_, .i32⟩
  | 65 => ⟨S2, .i32⟩
  | 66 => ⟨S2, .i32⟩
  | 67 => ⟨S_, .i32⟩
  | 68 => ⟨S384x384, .i32⟩
  | 69 => ⟨S384x384, .i1⟩
  | 70 => ⟨S384x384, .f32⟩
  | 71 => ⟨S147456, .f32⟩
  | 72 => ⟨S_, .f32⟩
  | 73 => ⟨S147456, .f32⟩
  | 74 => ⟨S_, .i32⟩
  | 75 => ⟨S147456, .i32⟩
  | 76 => ⟨S147456, .i1⟩
  | 77 => ⟨S_, .i32⟩
  | 78 => ⟨S147456, .i32⟩
  | 79 => ⟨S147456, .i32⟩
  | 80 => ⟨S147456, .i32⟩
  | 81 => ⟨S147456x1, .i32⟩
  | 82 => ⟨S147456, .f32⟩
  | 83 => ⟨S_, .f32⟩
  | 84 => ⟨S_, .f32⟩
  | 85 => ⟨S147456, .i32⟩
  | 86 => ⟨S_, .f32⟩
  | 87 => ⟨S_, .i32⟩
  | 88 => ⟨S_, .f32⟩
  | 89 => ⟨S_, .i32⟩
  | 90 => ⟨S_, .i32⟩
  | 91 => ⟨S_, .i32⟩
  | 92 => ⟨S_, .i32⟩
  | 93 => ⟨S_, .i1⟩
  | 94 => ⟨S_, .i32⟩
  | 95 => ⟨S_, .i32⟩
  | 96 => ⟨S_, .i32⟩
  | 97 => ⟨S_, .i32⟩
  | 98 => ⟨S_, .i1⟩
  | 99 => ⟨S_, .i32⟩
  | 100 => ⟨S_, .i1⟩
  | 101 => ⟨S_, .i32⟩
  | 102 => ⟨S_, .i1⟩
  | 103 => ⟨S_, .i1⟩
  | 104 => ⟨S_, .i1⟩
  | 105 => ⟨S_, .i32⟩
  | 106 => ⟨S_, .i32⟩
  | 107 => ⟨S_, .i32⟩
  | 108 => ⟨S_, .i32⟩
  | 109 => ⟨S_, .i32⟩
  | 110 => ⟨S_, .i32⟩
  | 111 => ⟨S_, .i32⟩
  | 112 => ⟨S_, .i1⟩
  | 113 => ⟨S_, .i32⟩
  | 114 => ⟨S_, .i32⟩
  | 115 => ⟨S_, .i1⟩
  | 116 => ⟨S_, .i1⟩
  | 117 => ⟨S_, .i32⟩
  | 118 => ⟨S_, .i32⟩
  | 119 => ⟨S_, .i32⟩
  | 120 => ⟨S1, .i32⟩
  | 121 => ⟨S1, .i32⟩
  | 122 => ⟨S2, .i32⟩
  | 123 => ⟨S_, .f32⟩
  | 124 => ⟨S_, .i1⟩
  | 125 => ⟨S_, .i32⟩
  | 126 => ⟨S2, .i32⟩
  | 127 => ⟨S2, .i32⟩
  | _ => ⟨S2x96x384x384, .f32⟩

abbrev hbmTy0_3 (i : Nat) : BufTy := match i % 128 with
  | 0 => ⟨S1x2, .i32⟩
  | 1 => ⟨S1x2, .i32⟩
  | 2 => ⟨S2x2, .i32⟩
  | 3 => ⟨S1x384x384, .i32⟩
  | 4 => ⟨S384x384, .i32⟩
  | 5 => ⟨S1x1x384x384, .f32⟩
  | 6 => ⟨S384x384, .f32⟩
  | 7 => ⟨S1x1x384x384, .f32⟩
  | 8 => ⟨S384x384, .f32⟩
  | 9 => ⟨S384, .f32⟩
  | 10 => ⟨S384, .f32⟩
  | 11 => ⟨S384x384, .f32⟩
  | 12 => ⟨S384x384, .f32⟩
  | 13 => ⟨S384x384, .f32⟩
  | 14 => ⟨S_, .i32⟩
  | 15 => ⟨S_, .i32⟩
  | 16 => ⟨S_, .f32⟩
  | 17 => ⟨S384x384, .f32⟩
  | 18 => ⟨S384x384, .f32⟩
  | 19 => ⟨S_, .f32⟩
  | 20 => ⟨S384x384, .f32⟩
  | 21 => ⟨S384x384, .f32⟩
  | 22 => ⟨S384x384, .i32⟩
  | 23 => ⟨S384x384, .f32⟩
  | 24 => ⟨S_, .i32⟩
  | 25 => ⟨S_, .i32⟩
  | 26 => ⟨S_, .f32⟩
  | 27 => ⟨S384x384, .f32⟩
  | 28 => ⟨S384x384, .f32⟩
  | 29 => ⟨S_, .f32⟩
  | 30 => ⟨S384x384, .f32⟩
  | 31 => ⟨S384x384, .f32⟩
  | 32 => ⟨S384x384, .i32⟩
  | 33 => ⟨S_, .i32⟩
  | 34 => ⟨S384x384, .i32⟩
  | 35 => ⟨S384x384, .i32⟩
  | 36 => ⟨S384x384, .i32⟩
  | 37 => ⟨S147456, .i32⟩
  | 38 => ⟨S_, .i32⟩
  | 39 => ⟨S384x384, .i32⟩
  | 40 => ⟨S384x384, .i1⟩
  | 41 => ⟨S384x384, .f32⟩
  | 42 => ⟨S147456, .f32⟩
  | 43 => ⟨S_, .f32⟩
  | 44 => ⟨S147456, .f32⟩
  | 45 => ⟨S_, .i32⟩
  | 46 => ⟨S147456, .i32⟩
  | 47 => ⟨S147456, .i1⟩
  | 48 => ⟨S_, .i32⟩
  | 49 => ⟨S147456, .i32⟩
  | 50 => ⟨S147456, .i32⟩
  | 51 => ⟨S147456, .i32⟩
  | 52 => ⟨S147456x1, .i32⟩
  | 53 => ⟨S147456, .f32⟩
  | 54 => ⟨S_, .f32⟩
  | 55 => ⟨S_, .f32⟩
  | 56 => ⟨S147456, .i32⟩
  | 57 => ⟨S_, .f32⟩
  | 58 => ⟨S_, .i32⟩
  | 59 => ⟨S_, .f32⟩
  | 60 => ⟨S_, .i32⟩
  | 61 => ⟨S_, .i32⟩
  | 62 => ⟨S_, .i32⟩
  | 63 => ⟨S_, .i32⟩
  | 64 => ⟨S_, .i1⟩
  | 65 => ⟨S_, .i32⟩
  | 66 => ⟨S_, .i32⟩
  | 67 => ⟨S_, .i32⟩
  | 68 => ⟨S_, .i32⟩
  | 69 => ⟨S_, .i1⟩
  | 70 => ⟨S_, .i32⟩
  | 71 => ⟨S_, .i1⟩
  | 72 => ⟨S_, .i32⟩
  | 73 => ⟨S_, .i1⟩
  | 74 => ⟨S_, .i1⟩
  | 75 => ⟨S_, .i1⟩
  | 76 => ⟨S_, .i32⟩
  | 77 => ⟨S_, .i32⟩
  | 78 => ⟨S_, .i32⟩
  | 79 => ⟨S_, .i32⟩
  | 80 => ⟨S_, .i32⟩
  | 81 => ⟨S_, .i32⟩
  | 82 => ⟨S_, .i32⟩
  | 83 => ⟨S_, .i1⟩
  | 84 => ⟨S_, .i32⟩
  | 85 => ⟨S_, .i32⟩
  | 86 => ⟨S_, .i1⟩
  | 87 => ⟨S_, .i1⟩
  | 88 => ⟨S_, .i32⟩
  | 89 => ⟨S_, .i32⟩
  | 90 => ⟨S_, .i32⟩
  | 91 => ⟨S1, .i32⟩
  | 92 => ⟨S1, .i32⟩
  | 93 => ⟨S2, .i32⟩
  | 94 => ⟨S_, .f32⟩
  | 95 => ⟨S_, .i1⟩
  | 96 => ⟨S_, .i32⟩
  | 97 => ⟨S2, .i32⟩
  | 98 => ⟨S2, .i32⟩
  | 99 => ⟨S_, .i32⟩
  | 100 => ⟨S384x384, .i32⟩
  | 101 => ⟨S384x384, .i1⟩
  | 102 => ⟨S384x384, .f32⟩
  | 103 => ⟨S147456, .f32⟩
  | 104 => ⟨S_, .f32⟩
  | 105 => ⟨S147456, .f32⟩
  | 106 => ⟨S_, .i32⟩
  | 107 => ⟨S147456, .i32⟩
  | 108 => ⟨S147456, .i1⟩
  | 109 => ⟨S_, .i32⟩
  | 110 => ⟨S147456, .i32⟩
  | 111 => ⟨S147456, .i32⟩
  | 112 => ⟨S147456, .i32⟩
  | 113 => ⟨S147456x1, .i32⟩
  | 114 => ⟨S147456, .f32⟩
  | 115 => ⟨S_, .f32⟩
  | 116 => ⟨S_, .f32⟩
  | 117 => ⟨S147456, .i32⟩
  | 118 => ⟨S_, .f32⟩
  | 119 => ⟨S_, .i32⟩
  | 120 => ⟨S_, .f32⟩
  | 121 => ⟨S_, .i32⟩
  | 122 => ⟨S_, .i32⟩
  | 123 => ⟨S_, .i32⟩
  | 124 => ⟨S_, .i32⟩
  | 125 => ⟨S_, .i1⟩
  | 126 => ⟨S_, .i32⟩
  | 127 => ⟨S_, .i32⟩
  | _ => ⟨S2x96x384x384, .f32⟩

abbrev hbmTy0_4 (i : Nat) : BufTy := match i % 128 with
  | 0 => ⟨S_, .i32⟩
  | 1 => ⟨S_, .i32⟩
  | 2 => ⟨S_, .i1⟩
  | 3 => ⟨S_, .i32⟩
  | 4 => ⟨S_, .i1⟩
  | 5 => ⟨S_, .i32⟩
  | 6 => ⟨S_, .i1⟩
  | 7 => ⟨S_, .i1⟩
  | 8 => ⟨S_, .i1⟩
  | 9 => ⟨S_, .i32⟩
  | 10 => ⟨S_, .i32⟩
  | 11 => ⟨S_, .i32⟩
  | 12 => ⟨S_, .i32⟩
  | 13 => ⟨S_, .i32⟩
  | 14 => ⟨S_, .i32⟩
  | 15 => ⟨S_, .i32⟩
  | 16 => ⟨S_, .i1⟩
  | 17 => ⟨S_, .i32⟩
  | 18 => ⟨S_, .i32⟩
  | 19 => ⟨S_, .i1⟩
  | 20 => ⟨S_, .i1⟩
  | 21 => ⟨S_, .i32⟩
  | 22 => ⟨S_, .i32⟩
  | 23 => ⟨S_, .i32⟩
  | 24 => ⟨S1, .i32⟩
  | 25 => ⟨S1, .i32⟩
  | 26 => ⟨S2, .i32⟩
  | 27 => ⟨S_, .f32⟩
  | 28 => ⟨S_, .i1⟩
  | 29 => ⟨S_, .i32⟩
  | 30 => ⟨S2, .i32⟩
  | 31 => ⟨S2, .i32⟩
  | 32 => ⟨S1x2, .i32⟩
  | 33 => ⟨S1x2, .i32⟩
  | 34 => ⟨S2x2, .i32⟩
  | 35 => ⟨S1x2x2, .i32⟩
  | 36 => ⟨S1x2x2, .i32⟩
  | 37 => ⟨S2x2x2, .i32⟩
  | _ => ⟨S2x96x384x384, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S2x96x384x384, .f32⟩

abbrev bufTy : (tb : Table) → Fin (tcTables nBuf tb) → BufTy
  | .hbm, ⟨i, _⟩ => hbmTy i
  | _, _ => ⟨S2x96x384x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_call0_v0 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_call1_cst : Ref sig .tc := ⟨.hbm, 72, rfl⟩
abbrev main_call1_v0 : Ref sig .tc := ⟨.hbm, 73, rfl⟩
abbrev main_v59 : Ref sig .tc := ⟨.hbm, 74, rfl⟩
abbrev main_c_0 : Ref sig .tc := ⟨.hbm, 75, rfl⟩
abbrev main_call2_v0 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_cst_1 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_call3_cst : Ref sig .tc := ⟨.hbm, 137, rfl⟩
abbrev main_call3_v0 : Ref sig .tc := ⟨.hbm, 138, rfl⟩
abbrev main_v119 : Ref sig .tc := ⟨.hbm, 139, rfl⟩
abbrev main_c_2 : Ref sig .tc := ⟨.hbm, 140, rfl⟩
abbrev main_call4_v0 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_cst_3 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_v132 : Ref sig .tc := ⟨.hbm, 155, rfl⟩
abbrev main_v133 : Ref sig .tc := ⟨.hbm, 156, rfl⟩
abbrev main_v134 : Ref sig .tc := ⟨.hbm, 157, rfl⟩
abbrev main_v135 : Ref sig .tc := ⟨.hbm, 158, rfl⟩
abbrev main_v136 : Ref sig .tc := ⟨.hbm, 159, rfl⟩
abbrev main_v137 : Ref sig .tc := ⟨.hbm, 160, rfl⟩
abbrev main_v138 : Ref sig .tc := ⟨.hbm, 161, rfl⟩
abbrev main_v139 : Ref sig .tc := ⟨.hbm, 162, rfl⟩
abbrev main_v140 : Ref sig .tc := ⟨.hbm, 163, rfl⟩
abbrev main_v141 : Ref sig .tc := ⟨.hbm, 164, rfl⟩
abbrev main_v142 : Ref sig .tc := ⟨.hbm, 165, rfl⟩
abbrev main_v143 : Ref sig .tc := ⟨.hbm, 166, rfl⟩
abbrev main_v144 : Ref sig .tc := ⟨.hbm, 167, rfl⟩
abbrev main_v145 : Ref sig .tc := ⟨.hbm, 168, rfl⟩
abbrev main_v146 : Ref sig .tc := ⟨.hbm, 169, rfl⟩
abbrev main_v147 : Ref sig .tc := ⟨.hbm, 170, rfl⟩
abbrev main_v148 : Ref sig .tc := ⟨.hbm, 171, rfl⟩
abbrev main_v149 : Ref sig .tc := ⟨.hbm, 172, rfl⟩
abbrev main_v150 : Ref sig .tc := ⟨.hbm, 173, rfl⟩
abbrev main_v151 : Ref sig .tc := ⟨.hbm, 174, rfl⟩
abbrev main_v152 : Ref sig .tc := ⟨.hbm, 175, rfl⟩
abbrev main_v153 : Ref sig .tc := ⟨.hbm, 176, rfl⟩
abbrev main_v154 : Ref sig .tc := ⟨.hbm, 177, rfl⟩
abbrev main_v155 : Ref sig .tc := ⟨.hbm, 178, rfl⟩
abbrev main_v156 : Ref sig .tc := ⟨.hbm, 179, rfl⟩
abbrev main_v157 : Ref sig .tc := ⟨.hbm, 180, rfl⟩
abbrev main_v158 : Ref sig .tc := ⟨.hbm, 181, rfl⟩
abbrev main_v159 : Ref sig .tc := ⟨.hbm, 182, rfl⟩
abbrev main_v160 : Ref sig .tc := ⟨.hbm, 183, rfl⟩
abbrev main_v161 : Ref sig .tc := ⟨.hbm, 184, rfl⟩
abbrev main_v162 : Ref sig .tc := ⟨.hbm, 185, rfl⟩
abbrev main_v163 : Ref sig .tc := ⟨.hbm, 186, rfl⟩
abbrev main_v164 : Ref sig .tc := ⟨.hbm, 187, rfl⟩
abbrev main_v165 : Ref sig .tc := ⟨.hbm, 188, rfl⟩
abbrev main_v166 : Ref sig .tc := ⟨.hbm, 189, rfl⟩
abbrev main_v167 : Ref sig .tc := ⟨.hbm, 190, rfl⟩
abbrev main_v168 : Ref sig .tc := ⟨.hbm, 191, rfl⟩
abbrev main_v169 : Ref sig .tc := ⟨.hbm, 192, rfl⟩
abbrev main_v170 : Ref sig .tc := ⟨.hbm, 193, rfl⟩
abbrev main_v171 : Ref sig .tc := ⟨.hbm, 194, rfl⟩
abbrev main_v172 : Ref sig .tc := ⟨.hbm, 195, rfl⟩
abbrev main_v173 : Ref sig .tc := ⟨.hbm, 196, rfl⟩
abbrev main_v174 : Ref sig .tc := ⟨.hbm, 197, rfl⟩
abbrev main_v175 : Ref sig .tc := ⟨.hbm, 198, rfl⟩
abbrev main_v176 : Ref sig .tc := ⟨.hbm, 199, rfl⟩
abbrev main_v177 : Ref sig .tc := ⟨.hbm, 200, rfl⟩
abbrev main_v178 : Ref sig .tc := ⟨.hbm, 201, rfl⟩
abbrev main_call5_cst : Ref sig .tc := ⟨.hbm, 202, rfl⟩
abbrev main_call5_v0 : Ref sig .tc := ⟨.hbm, 203, rfl⟩
abbrev main_v179 : Ref sig .tc := ⟨.hbm, 204, rfl⟩
abbrev main_c_4 : Ref sig .tc := ⟨.hbm, 205, rfl⟩
abbrev main_call6_v0 : Ref sig .tc := ⟨.hbm, 206, rfl⟩
abbrev main_v180 : Ref sig .tc := ⟨.hbm, 207, rfl⟩
abbrev main_v181 : Ref sig .tc := ⟨.hbm, 208, rfl⟩
abbrev main_v182 : Ref sig .tc := ⟨.hbm, 209, rfl⟩
abbrev main_v183 : Ref sig .tc := ⟨.hbm, 210, rfl⟩
abbrev main_cst_5 : Ref sig .tc := ⟨.hbm, 211, rfl⟩
abbrev main_v184 : Ref sig .tc := ⟨.hbm, 212, rfl⟩
abbrev main_v185 : Ref sig .tc := ⟨.hbm, 213, rfl⟩
abbrev main_v186 : Ref sig .tc := ⟨.hbm, 214, rfl⟩
abbrev main_v187 : Ref sig .tc := ⟨.hbm, 215, rfl⟩
abbrev main_v188 : Ref sig .tc := ⟨.hbm, 216, rfl⟩
abbrev main_v189 : Ref sig .tc := ⟨.hbm, 217, rfl⟩
abbrev main_cst_6 : Ref sig .tc := ⟨.hbm, 218, rfl⟩
abbrev main_v190 : Ref sig .tc := ⟨.hbm, 219, rfl⟩
abbrev main_v191 : Ref sig .tc := ⟨.hbm, 220, rfl⟩
abbrev main_v192 : Ref sig .tc := ⟨.hbm, 221, rfl⟩
abbrev main_cst_7 : Ref sig .tc := ⟨.hbm, 222, rfl⟩
abbrev main_v193 : Ref sig .tc := ⟨.hbm, 223, rfl⟩
abbrev main_v194 : Ref sig .tc := ⟨.hbm, 224, rfl⟩
abbrev main_v195 : Ref sig .tc := ⟨.hbm, 225, rfl⟩
abbrev main_v196 : Ref sig .tc := ⟨.hbm, 226, rfl⟩
abbrev main_v197 : Ref sig .tc := ⟨.hbm, 227, rfl⟩
abbrev main_v198 : Ref sig .tc := ⟨.hbm, 228, rfl⟩
abbrev main_v199 : Ref sig .tc := ⟨.hbm, 229, rfl⟩
abbrev main_v200 : Ref sig .tc := ⟨.hbm, 230, rfl⟩
abbrev main_v201 : Ref sig .tc := ⟨.hbm, 231, rfl⟩
abbrev main_v202 : Ref sig .tc := ⟨.hbm, 232, rfl⟩
abbrev main_v203 : Ref sig .tc := ⟨.hbm, 233, rfl⟩
abbrev main_v204 : Ref sig .tc := ⟨.hbm, 234, rfl⟩
abbrev main_v205 : Ref sig .tc := ⟨.hbm, 235, rfl⟩
abbrev main_v206 : Ref sig .tc := ⟨.hbm, 236, rfl⟩
abbrev main_v207 : Ref sig .tc := ⟨.hbm, 237, rfl⟩
abbrev main_c_8 : Ref sig .tc := ⟨.hbm, 238, rfl⟩
abbrev main_c_9 : Ref sig .tc := ⟨.hbm, 239, rfl⟩
abbrev main_call7_v0 : Ref sig .tc := ⟨.hbm, 240, rfl⟩
abbrev main_call7_v1 : Ref sig .tc := ⟨.hbm, 241, rfl⟩
abbrev main_call7_v2 : Ref sig .tc := ⟨.hbm, 242, rfl⟩
abbrev main_call7_v3 : Ref sig .tc := ⟨.hbm, 243, rfl⟩
abbrev main_call7_v4 : Ref sig .tc := ⟨.hbm, 244, rfl⟩
abbrev main_v208 : Ref sig .tc := ⟨.hbm, 245, rfl⟩
abbrev main_v209 : Ref sig .tc := ⟨.hbm, 246, rfl⟩
abbrev main_v210 : Ref sig .tc := ⟨.hbm, 247, rfl⟩
abbrev main_c_10 : Ref sig .tc := ⟨.hbm, 248, rfl⟩
abbrev main_c_11 : Ref sig .tc := ⟨.hbm, 249, rfl⟩
abbrev main_call8_v0 : Ref sig .tc := ⟨.hbm, 250, rfl⟩
abbrev main_call8_v1 : Ref sig .tc := ⟨.hbm, 251, rfl⟩
abbrev main_call8_v2 : Ref sig .tc := ⟨.hbm, 252, rfl⟩
abbrev main_call8_v3 : Ref sig .tc := ⟨.hbm, 253, rfl⟩
abbrev main_call8_v4 : Ref sig .tc := ⟨.hbm, 254, rfl⟩
abbrev main_v211 : Ref sig .tc := ⟨.hbm, 255, rfl⟩
abbrev main_v212 : Ref sig .tc := ⟨.hbm, 256, rfl⟩
abbrev main_c_12 : Ref sig .tc := ⟨.hbm, 257, rfl⟩
abbrev main_v213 : Ref sig .tc := ⟨.hbm, 258, rfl⟩
abbrev main_v214 : Ref sig .tc := ⟨.hbm, 259, rfl⟩
abbrev main_v215 : Ref sig .tc := ⟨.hbm, 260, rfl⟩
abbrev main_v216 : Ref sig .tc := ⟨.hbm, 261, rfl⟩
abbrev main_c_13 : Ref sig .tc := ⟨.hbm, 262, rfl⟩
abbrev main_v217 : Ref sig .tc := ⟨.hbm, 263, rfl⟩
abbrev main_v218 : Ref sig .tc := ⟨.hbm, 264, rfl⟩
abbrev main_v219 : Ref sig .tc := ⟨.hbm, 265, rfl⟩
abbrev main_v220 : Ref sig .tc := ⟨.hbm, 266, rfl⟩
abbrev main_cst_14 : Ref sig .tc := ⟨.hbm, 267, rfl⟩
abbrev main_v221 : Ref sig .tc := ⟨.hbm, 268, rfl⟩
abbrev main_c_15 : Ref sig .tc := ⟨.hbm, 269, rfl⟩
abbrev main_v222 : Ref sig .tc := ⟨.hbm, 270, rfl⟩
abbrev main_v223 : Ref sig .tc := ⟨.hbm, 271, rfl⟩
abbrev main_c_16 : Ref sig .tc := ⟨.hbm, 272, rfl⟩
abbrev main_v224 : Ref sig .tc := ⟨.hbm, 273, rfl⟩
abbrev main_v225 : Ref sig .tc := ⟨.hbm, 274, rfl⟩
abbrev main_v226 : Ref sig .tc := ⟨.hbm, 275, rfl⟩
abbrev main_v227 : Ref sig .tc := ⟨.hbm, 276, rfl⟩
abbrev main_v228 : Ref sig .tc := ⟨.hbm, 277, rfl⟩
abbrev main_cst_17 : Ref sig .tc := ⟨.hbm, 278, rfl⟩
abbrev main_v229 : Ref sig .tc := ⟨.hbm, 279, rfl⟩
abbrev main_call9_v0 : Ref sig .tc := ⟨.hbm, 280, rfl⟩
abbrev main_call9_cst : Ref sig .tc := ⟨.hbm, 281, rfl⟩
abbrev main_call9_c : Ref sig .tc := ⟨.hbm, 282, rfl⟩
abbrev main_call9_v1_0 : Ref sig .tc := ⟨.hbm, 283, rfl⟩
abbrev main_v230 : Ref sig .tc := ⟨.hbm, 284, rfl⟩
abbrev main_c_18 : Ref sig .tc := ⟨.hbm, 285, rfl⟩
abbrev main_call10_v0 : Ref sig .tc := ⟨.hbm, 286, rfl⟩
abbrev main_call10_c : Ref sig .tc := ⟨.hbm, 287, rfl⟩
abbrev main_call10_v1 : Ref sig .tc := ⟨.hbm, 288, rfl⟩
abbrev main_call10_c_0 : Ref sig .tc := ⟨.hbm, 289, rfl⟩
abbrev main_call10_v2 : Ref sig .tc := ⟨.hbm, 290, rfl⟩
abbrev main_call10_v3 : Ref sig .tc := ⟨.hbm, 291, rfl⟩
abbrev main_call10_c_1 : Ref sig .tc := ⟨.hbm, 292, rfl⟩
abbrev main_call10_v4 : Ref sig .tc := ⟨.hbm, 293, rfl⟩
abbrev main_call10_c_2 : Ref sig .tc := ⟨.hbm, 294, rfl⟩
abbrev main_call10_v5 : Ref sig .tc := ⟨.hbm, 295, rfl⟩
abbrev main_call10_c_3 : Ref sig .tc := ⟨.hbm, 296, rfl⟩
abbrev main_call10_v6 : Ref sig .tc := ⟨.hbm, 297, rfl⟩
abbrev main_call10_v7 : Ref sig .tc := ⟨.hbm, 298, rfl⟩
abbrev main_call10_v8 : Ref sig .tc := ⟨.hbm, 299, rfl⟩
abbrev main_call10_v9 : Ref sig .tc := ⟨.hbm, 300, rfl⟩
abbrev main_v231 : Ref sig .tc := ⟨.hbm, 301, rfl⟩
abbrev main_c_19 : Ref sig .tc := ⟨.hbm, 302, rfl⟩
abbrev main_call11_v0 : Ref sig .tc := ⟨.hbm, 303, rfl⟩
abbrev main_call11_v1 : Ref sig .tc := ⟨.hbm, 304, rfl⟩
abbrev main_call11_v2 : Ref sig .tc := ⟨.hbm, 305, rfl⟩
abbrev main_call11_v3 : Ref sig .tc := ⟨.hbm, 306, rfl⟩
abbrev main_call11_v4 : Ref sig .tc := ⟨.hbm, 307, rfl⟩
abbrev main_call11_v5 : Ref sig .tc := ⟨.hbm, 308, rfl⟩
abbrev main_call11_c : Ref sig .tc := ⟨.hbm, 309, rfl⟩
abbrev main_call11_v6 : Ref sig .tc := ⟨.hbm, 310, rfl⟩
abbrev main_call11_v7 : Ref sig .tc := ⟨.hbm, 311, rfl⟩
abbrev main_call11_c_0 : Ref sig .tc := ⟨.hbm, 312, rfl⟩
abbrev main_call11_v8 : Ref sig .tc := ⟨.hbm, 313, rfl⟩
abbrev main_v232 : Ref sig .tc := ⟨.hbm, 314, rfl⟩
abbrev main_v233 : Ref sig .tc := ⟨.hbm, 315, rfl⟩
abbrev main_v234 : Ref sig .tc := ⟨.hbm, 316, rfl⟩
abbrev main_v235 : Ref sig .tc := ⟨.hbm, 317, rfl⟩
abbrev main_cst_20 : Ref sig .tc := ⟨.hbm, 318, rfl⟩
abbrev main_v236 : Ref sig .tc := ⟨.hbm, 319, rfl⟩
abbrev main_c_21 : Ref sig .tc := ⟨.hbm, 320, rfl⟩
abbrev main_v237 : Ref sig .tc := ⟨.hbm, 321, rfl⟩
abbrev main_v238 : Ref sig .tc := ⟨.hbm, 322, rfl⟩
abbrev main_c_22 : Ref sig .tc := ⟨.hbm, 323, rfl⟩
abbrev main_v239 : Ref sig .tc := ⟨.hbm, 324, rfl⟩
abbrev main_v240 : Ref sig .tc := ⟨.hbm, 325, rfl⟩
abbrev main_v241 : Ref sig .tc := ⟨.hbm, 326, rfl⟩
abbrev main_v242 : Ref sig .tc := ⟨.hbm, 327, rfl⟩
abbrev main_cst_23 : Ref sig .tc := ⟨.hbm, 328, rfl⟩
abbrev main_v243 : Ref sig .tc := ⟨.hbm, 329, rfl⟩
abbrev main_c_24 : Ref sig .tc := ⟨.hbm, 330, rfl⟩
abbrev main_v244 : Ref sig .tc := ⟨.hbm, 331, rfl⟩
abbrev main_v245 : Ref sig .tc := ⟨.hbm, 332, rfl⟩
abbrev main_c_25 : Ref sig .tc := ⟨.hbm, 333, rfl⟩
abbrev main_v246 : Ref sig .tc := ⟨.hbm, 334, rfl⟩
abbrev main_v247 : Ref sig .tc := ⟨.hbm, 335, rfl⟩
abbrev main_v248 : Ref sig .tc := ⟨.hbm, 336, rfl⟩
abbrev main_v249 : Ref sig .tc := ⟨.hbm, 337, rfl⟩
abbrev main_v250 : Ref sig .tc := ⟨.hbm, 338, rfl⟩
abbrev main_cst_26 : Ref sig .tc := ⟨.hbm, 339, rfl⟩
abbrev main_v251 : Ref sig .tc := ⟨.hbm, 340, rfl⟩
abbrev main_call13_v0 : Ref sig .tc := ⟨.hbm, 341, rfl⟩
abbrev main_call13_cst : Ref sig .tc := ⟨.hbm, 342, rfl⟩
abbrev main_call13_c : Ref sig .tc := ⟨.hbm, 343, rfl⟩
abbrev main_call13_v1_0 : Ref sig .tc := ⟨.hbm, 344, rfl⟩
abbrev main_v252 : Ref sig .tc := ⟨.hbm, 345, rfl⟩
abbrev main_c_27 : Ref sig .tc := ⟨.hbm, 346, rfl⟩
abbrev main_call14_v0 : Ref sig .tc := ⟨.hbm, 347, rfl⟩
abbrev main_call14_c : Ref sig .tc := ⟨.hbm, 348, rfl⟩
abbrev main_call14_v1 : Ref sig .tc := ⟨.hbm, 349, rfl⟩
abbrev main_call14_c_0 : Ref sig .tc := ⟨.hbm, 350, rfl⟩
abbrev main_call14_v2 : Ref sig .tc := ⟨.hbm, 351, rfl⟩
abbrev main_call14_v3 : Ref sig .tc := ⟨.hbm, 352, rfl⟩
abbrev main_call14_c_1 : Ref sig .tc := ⟨.hbm, 353, rfl⟩
abbrev main_call14_v4 : Ref sig .tc := ⟨.hbm, 354, rfl⟩
abbrev main_call14_c_2 : Ref sig .tc := ⟨.hbm, 355, rfl⟩
abbrev main_call14_v5 : Ref sig .tc := ⟨.hbm, 356, rfl⟩
abbrev main_call14_c_3 : Ref sig .tc := ⟨.hbm, 357, rfl⟩
abbrev main_call14_v6 : Ref sig .tc := ⟨.hbm, 358, rfl⟩
abbrev main_call14_v7 : Ref sig .tc := ⟨.hbm, 359, rfl⟩
abbrev main_call14_v8 : Ref sig .tc := ⟨.hbm, 360, rfl⟩
abbrev main_call14_v9 : Ref sig .tc := ⟨.hbm, 361, rfl⟩
abbrev main_v253 : Ref sig .tc := ⟨.hbm, 362, rfl⟩
abbrev main_c_28 : Ref sig .tc := ⟨.hbm, 363, rfl⟩
abbrev main_call15_v0 : Ref sig .tc := ⟨.hbm, 364, rfl⟩
abbrev main_call15_v1 : Ref sig .tc := ⟨.hbm, 365, rfl⟩
abbrev main_call15_v2 : Ref sig .tc := ⟨.hbm, 366, rfl⟩
abbrev main_call15_v3 : Ref sig .tc := ⟨.hbm, 367, rfl⟩
abbrev main_call15_v4 : Ref sig .tc := ⟨.hbm, 368, rfl⟩
abbrev main_call15_v5 : Ref sig .tc := ⟨.hbm, 369, rfl⟩
abbrev main_call15_c : Ref sig .tc := ⟨.hbm, 370, rfl⟩
abbrev main_call15_v6 : Ref sig .tc := ⟨.hbm, 371, rfl⟩
abbrev main_call15_v7 : Ref sig .tc := ⟨.hbm, 372, rfl⟩
abbrev main_call15_c_0 : Ref sig .tc := ⟨.hbm, 373, rfl⟩
abbrev main_call15_v8 : Ref sig .tc := ⟨.hbm, 374, rfl⟩
abbrev main_v254 : Ref sig .tc := ⟨.hbm, 375, rfl⟩
abbrev main_v255 : Ref sig .tc := ⟨.hbm, 376, rfl⟩
abbrev main_v256 : Ref sig .tc := ⟨.hbm, 377, rfl⟩
abbrev main_v257 : Ref sig .tc := ⟨.hbm, 378, rfl⟩
abbrev main_cst_29 : Ref sig .tc := ⟨.hbm, 379, rfl⟩
abbrev main_v258 : Ref sig .tc := ⟨.hbm, 380, rfl⟩
abbrev main_c_30 : Ref sig .tc := ⟨.hbm, 381, rfl⟩
abbrev main_v259 : Ref sig .tc := ⟨.hbm, 382, rfl⟩
abbrev main_v260 : Ref sig .tc := ⟨.hbm, 383, rfl⟩
abbrev main_v261 : Ref sig .tc := ⟨.hbm, 384, rfl⟩
abbrev main_v262 : Ref sig .tc := ⟨.hbm, 385, rfl⟩
abbrev main_v263 : Ref sig .tc := ⟨.hbm, 386, rfl⟩
abbrev main_v264 : Ref sig .tc := ⟨.hbm, 387, rfl⟩
abbrev main_v265 : Ref sig .tc := ⟨.hbm, 388, rfl⟩
abbrev main_v266 : Ref sig .tc := ⟨.hbm, 389, rfl⟩
abbrev main_v267 : Ref sig .tc := ⟨.hbm, 390, rfl⟩
abbrev main_v268 : Ref sig .tc := ⟨.hbm, 391, rfl⟩
abbrev main_v269 : Ref sig .tc := ⟨.hbm, 392, rfl⟩
abbrev main_v270 : Ref sig .tc := ⟨.hbm, 393, rfl⟩
abbrev main_v271 : Ref sig .tc := ⟨.hbm, 394, rfl⟩
abbrev main_v272 : Ref sig .tc := ⟨.hbm, 395, rfl⟩
abbrev main_v273 : Ref sig .tc := ⟨.hbm, 396, rfl⟩
abbrev main_v274 : Ref sig .tc := ⟨.hbm, 397, rfl⟩
abbrev main_c_31 : Ref sig .tc := ⟨.hbm, 398, rfl⟩
abbrev main_c_32 : Ref sig .tc := ⟨.hbm, 399, rfl⟩
abbrev main_call17_v0 : Ref sig .tc := ⟨.hbm, 400, rfl⟩
abbrev main_call17_v1 : Ref sig .tc := ⟨.hbm, 401, rfl⟩
abbrev main_call17_v2 : Ref sig .tc := ⟨.hbm, 402, rfl⟩
abbrev main_call17_v3 : Ref sig .tc := ⟨.hbm, 403, rfl⟩
abbrev main_call17_v4 : Ref sig .tc := ⟨.hbm, 404, rfl⟩
abbrev main_v275 : Ref sig .tc := ⟨.hbm, 405, rfl⟩
abbrev main_v276 : Ref sig .tc := ⟨.hbm, 406, rfl⟩
abbrev main_v277 : Ref sig .tc := ⟨.hbm, 407, rfl⟩
abbrev main_c_33 : Ref sig .tc := ⟨.hbm, 408, rfl⟩
abbrev main_c_34 : Ref sig .tc := ⟨.hbm, 409, rfl⟩
abbrev main_call18_v0 : Ref sig .tc := ⟨.hbm, 410, rfl⟩
abbrev main_call18_v1 : Ref sig .tc := ⟨.hbm, 411, rfl⟩
abbrev main_call18_v2 : Ref sig .tc := ⟨.hbm, 412, rfl⟩
abbrev main_call18_v3 : Ref sig .tc := ⟨.hbm, 413, rfl⟩
abbrev main_call18_v4 : Ref sig .tc := ⟨.hbm, 414, rfl⟩
abbrev main_v278 : Ref sig .tc := ⟨.hbm, 415, rfl⟩
abbrev main_v279 : Ref sig .tc := ⟨.hbm, 416, rfl⟩
abbrev main_c_35 : Ref sig .tc := ⟨.hbm, 417, rfl⟩
abbrev main_v280 : Ref sig .tc := ⟨.hbm, 418, rfl⟩
abbrev main_v281 : Ref sig .tc := ⟨.hbm, 419, rfl⟩
abbrev main_v282 : Ref sig .tc := ⟨.hbm, 420, rfl⟩
abbrev main_v283 : Ref sig .tc := ⟨.hbm, 421, rfl⟩
abbrev main_c_36 : Ref sig .tc := ⟨.hbm, 422, rfl⟩
abbrev main_v284 : Ref sig .tc := ⟨.hbm, 423, rfl⟩
abbrev main_v285 : Ref sig .tc := ⟨.hbm, 424, rfl⟩
abbrev main_v286 : Ref sig .tc := ⟨.hbm, 425, rfl⟩
abbrev main_v287 : Ref sig .tc := ⟨.hbm, 426, rfl⟩
abbrev main_cst_37 : Ref sig .tc := ⟨.hbm, 427, rfl⟩
abbrev main_v288 : Ref sig .tc := ⟨.hbm, 428, rfl⟩
abbrev main_c_38 : Ref sig .tc := ⟨.hbm, 429, rfl⟩
abbrev main_v289 : Ref sig .tc := ⟨.hbm, 430, rfl⟩
abbrev main_v290 : Ref sig .tc := ⟨.hbm, 431, rfl⟩
abbrev main_c_39 : Ref sig .tc := ⟨.hbm, 432, rfl⟩
abbrev main_v291 : Ref sig .tc := ⟨.hbm, 433, rfl⟩
abbrev main_v292 : Ref sig .tc := ⟨.hbm, 434, rfl⟩
abbrev main_v293 : Ref sig .tc := ⟨.hbm, 435, rfl⟩
abbrev main_v294 : Ref sig .tc := ⟨.hbm, 436, rfl⟩
abbrev main_v295 : Ref sig .tc := ⟨.hbm, 437, rfl⟩
abbrev main_cst_40 : Ref sig .tc := ⟨.hbm, 438, rfl⟩
abbrev main_v296 : Ref sig .tc := ⟨.hbm, 439, rfl⟩
abbrev main_call19_v0 : Ref sig .tc := ⟨.hbm, 440, rfl⟩
abbrev main_call19_cst : Ref sig .tc := ⟨.hbm, 441, rfl⟩
abbrev main_call19_c : Ref sig .tc := ⟨.hbm, 442, rfl⟩
abbrev main_call19_v1_0 : Ref sig .tc := ⟨.hbm, 443, rfl⟩
abbrev main_v297 : Ref sig .tc := ⟨.hbm, 444, rfl⟩
abbrev main_c_41 : Ref sig .tc := ⟨.hbm, 445, rfl⟩
abbrev main_call20_v0 : Ref sig .tc := ⟨.hbm, 446, rfl⟩
abbrev main_call20_c : Ref sig .tc := ⟨.hbm, 447, rfl⟩
abbrev main_call20_v1 : Ref sig .tc := ⟨.hbm, 448, rfl⟩
abbrev main_call20_c_0 : Ref sig .tc := ⟨.hbm, 449, rfl⟩
abbrev main_call20_v2 : Ref sig .tc := ⟨.hbm, 450, rfl⟩
abbrev main_call20_v3 : Ref sig .tc := ⟨.hbm, 451, rfl⟩
abbrev main_call20_c_1 : Ref sig .tc := ⟨.hbm, 452, rfl⟩
abbrev main_call20_v4 : Ref sig .tc := ⟨.hbm, 453, rfl⟩
abbrev main_call20_c_2 : Ref sig .tc := ⟨.hbm, 454, rfl⟩
abbrev main_call20_v5 : Ref sig .tc := ⟨.hbm, 455, rfl⟩
abbrev main_call20_c_3 : Ref sig .tc := ⟨.hbm, 456, rfl⟩
abbrev main_call20_v6 : Ref sig .tc := ⟨.hbm, 457, rfl⟩
abbrev main_call20_v7 : Ref sig .tc := ⟨.hbm, 458, rfl⟩
abbrev main_call20_v8 : Ref sig .tc := ⟨.hbm, 459, rfl⟩
abbrev main_call20_v9 : Ref sig .tc := ⟨.hbm, 460, rfl⟩
abbrev main_v298 : Ref sig .tc := ⟨.hbm, 461, rfl⟩
abbrev main_c_42 : Ref sig .tc := ⟨.hbm, 462, rfl⟩
abbrev main_call21_v0 : Ref sig .tc := ⟨.hbm, 463, rfl⟩
abbrev main_call21_v1 : Ref sig .tc := ⟨.hbm, 464, rfl⟩
abbrev main_call21_v2 : Ref sig .tc := ⟨.hbm, 465, rfl⟩
abbrev main_call21_v3 : Ref sig .tc := ⟨.hbm, 466, rfl⟩
abbrev main_call21_v4 : Ref sig .tc := ⟨.hbm, 467, rfl⟩
abbrev main_call21_v5 : Ref sig .tc := ⟨.hbm, 468, rfl⟩
abbrev main_call21_c : Ref sig .tc := ⟨.hbm, 469, rfl⟩
abbrev main_call21_v6 : Ref sig .tc := ⟨.hbm, 470, rfl⟩
abbrev main_call21_v7 : Ref sig .tc := ⟨.hbm, 471, rfl⟩
abbrev main_call21_c_0 : Ref sig .tc := ⟨.hbm, 472, rfl⟩
abbrev main_call21_v8 : Ref sig .tc := ⟨.hbm, 473, rfl⟩
abbrev main_v299 : Ref sig .tc := ⟨.hbm, 474, rfl⟩
abbrev main_v300 : Ref sig .tc := ⟨.hbm, 475, rfl⟩
abbrev main_v301 : Ref sig .tc := ⟨.hbm, 476, rfl⟩
abbrev main_v302 : Ref sig .tc := ⟨.hbm, 477, rfl⟩
abbrev main_cst_43 : Ref sig .tc := ⟨.hbm, 478, rfl⟩
abbrev main_v303 : Ref sig .tc := ⟨.hbm, 479, rfl⟩
abbrev main_c_44 : Ref sig .tc := ⟨.hbm, 480, rfl⟩
abbrev main_v304 : Ref sig .tc := ⟨.hbm, 481, rfl⟩
abbrev main_v305 : Ref sig .tc := ⟨.hbm, 482, rfl⟩
abbrev main_c_45 : Ref sig .tc := ⟨.hbm, 483, rfl⟩
abbrev main_v306 : Ref sig .tc := ⟨.hbm, 484, rfl⟩
abbrev main_v307 : Ref sig .tc := ⟨.hbm, 485, rfl⟩
abbrev main_v308 : Ref sig .tc := ⟨.hbm, 486, rfl⟩
abbrev main_v309 : Ref sig .tc := ⟨.hbm, 487, rfl⟩
abbrev main_cst_46 : Ref sig .tc := ⟨.hbm, 488, rfl⟩
abbrev main_v310 : Ref sig .tc := ⟨.hbm, 489, rfl⟩
abbrev main_c_47 : Ref sig .tc := ⟨.hbm, 490, rfl⟩
abbrev main_v311 : Ref sig .tc := ⟨.hbm, 491, rfl⟩
abbrev main_v312 : Ref sig .tc := ⟨.hbm, 492, rfl⟩
abbrev main_c_48 : Ref sig .tc := ⟨.hbm, 493, rfl⟩
abbrev main_v313 : Ref sig .tc := ⟨.hbm, 494, rfl⟩
abbrev main_v314 : Ref sig .tc := ⟨.hbm, 495, rfl⟩
abbrev main_v315 : Ref sig .tc := ⟨.hbm, 496, rfl⟩
abbrev main_v316 : Ref sig .tc := ⟨.hbm, 497, rfl⟩
abbrev main_v317 : Ref sig .tc := ⟨.hbm, 498, rfl⟩
abbrev main_cst_49 : Ref sig .tc := ⟨.hbm, 499, rfl⟩
abbrev main_v318 : Ref sig .tc := ⟨.hbm, 500, rfl⟩
abbrev main_call23_v0 : Ref sig .tc := ⟨.hbm, 501, rfl⟩
abbrev main_call23_cst : Ref sig .tc := ⟨.hbm, 502, rfl⟩
abbrev main_call23_c : Ref sig .tc := ⟨.hbm, 503, rfl⟩
abbrev main_call23_v1_0 : Ref sig .tc := ⟨.hbm, 504, rfl⟩
abbrev main_v319 : Ref sig .tc := ⟨.hbm, 505, rfl⟩
abbrev main_c_50 : Ref sig .tc := ⟨.hbm, 506, rfl⟩
abbrev main_call24_v0 : Ref sig .tc := ⟨.hbm, 507, rfl⟩
abbrev main_call24_c : Ref sig .tc := ⟨.hbm, 508, rfl⟩
abbrev main_call24_v1 : Ref sig .tc := ⟨.hbm, 509, rfl⟩
abbrev main_call24_c_0 : Ref sig .tc := ⟨.hbm, 510, rfl⟩
abbrev main_call24_v2 : Ref sig .tc := ⟨.hbm, 511, rfl⟩
abbrev main_call24_v3 : Ref sig .tc := ⟨.hbm, 512, rfl⟩
abbrev main_call24_c_1 : Ref sig .tc := ⟨.hbm, 513, rfl⟩
abbrev main_call24_v4 : Ref sig .tc := ⟨.hbm, 514, rfl⟩
abbrev main_call24_c_2 : Ref sig .tc := ⟨.hbm, 515, rfl⟩
abbrev main_call24_v5 : Ref sig .tc := ⟨.hbm, 516, rfl⟩
abbrev main_call24_c_3 : Ref sig .tc := ⟨.hbm, 517, rfl⟩
abbrev main_call24_v6 : Ref sig .tc := ⟨.hbm, 518, rfl⟩
abbrev main_call24_v7 : Ref sig .tc := ⟨.hbm, 519, rfl⟩
abbrev main_call24_v8 : Ref sig .tc := ⟨.hbm, 520, rfl⟩
abbrev main_call24_v9 : Ref sig .tc := ⟨.hbm, 521, rfl⟩
abbrev main_v320 : Ref sig .tc := ⟨.hbm, 522, rfl⟩
abbrev main_c_51 : Ref sig .tc := ⟨.hbm, 523, rfl⟩
abbrev main_call25_v0 : Ref sig .tc := ⟨.hbm, 524, rfl⟩
abbrev main_call25_v1 : Ref sig .tc := ⟨.hbm, 525, rfl⟩
abbrev main_call25_v2 : Ref sig .tc := ⟨.hbm, 526, rfl⟩
abbrev main_call25_v3 : Ref sig .tc := ⟨.hbm, 527, rfl⟩
abbrev main_call25_v4 : Ref sig .tc := ⟨.hbm, 528, rfl⟩
abbrev main_call25_v5 : Ref sig .tc := ⟨.hbm, 529, rfl⟩
abbrev main_call25_c : Ref sig .tc := ⟨.hbm, 530, rfl⟩
abbrev main_call25_v6 : Ref sig .tc := ⟨.hbm, 531, rfl⟩
abbrev main_call25_v7 : Ref sig .tc := ⟨.hbm, 532, rfl⟩
abbrev main_call25_c_0 : Ref sig .tc := ⟨.hbm, 533, rfl⟩
abbrev main_call25_v8 : Ref sig .tc := ⟨.hbm, 534, rfl⟩
abbrev main_v321 : Ref sig .tc := ⟨.hbm, 535, rfl⟩
abbrev main_v322 : Ref sig .tc := ⟨.hbm, 536, rfl⟩
abbrev main_v323 : Ref sig .tc := ⟨.hbm, 537, rfl⟩
abbrev main_v324 : Ref sig .tc := ⟨.hbm, 538, rfl⟩
abbrev main_cst_52 : Ref sig .tc := ⟨.hbm, 539, rfl⟩
abbrev main_v325 : Ref sig .tc := ⟨.hbm, 540, rfl⟩
abbrev main_c_53 : Ref sig .tc := ⟨.hbm, 541, rfl⟩
abbrev main_v326 : Ref sig .tc := ⟨.hbm, 542, rfl⟩
abbrev main_v327 : Ref sig .tc := ⟨.hbm, 543, rfl⟩
abbrev main_v328 : Ref sig .tc := ⟨.hbm, 544, rfl⟩
abbrev main_v329 : Ref sig .tc := ⟨.hbm, 545, rfl⟩
abbrev main_v330 : Ref sig .tc := ⟨.hbm, 546, rfl⟩
abbrev main_v331 : Ref sig .tc := ⟨.hbm, 547, rfl⟩
abbrev main_v332 : Ref sig .tc := ⟨.hbm, 548, rfl⟩
abbrev main_v333 : Ref sig .tc := ⟨.hbm, 549, rfl⟩

abbrev nD : Nat := 1
abbrev τ : Topo := Topo.v7x

variable {F : FTy → Type} [FloatOps F]
-- ==== Proof.Spec.lean ====
/- The mathematics both programs compute, over extended reals and without any program: a 3x3 convolution with a border of
   zeros followed by the clamp at zero, and the regrouping of its sum by columns. -/
module

public import Idealize.ShloMosaic.Lib.Pointwise

@[expose] public section

noncomputable section

namespace Cert.Spec

/-- An image as a function of row, column and channel. -/
abbrev Image (C : ℕ) := Fin 384 → Fin 384 → Fin C → EReal

/-- The image with a border of one zero cell around it: `p` and `q` count rows and columns from the border's. -/
def bordered {C : ℕ} (X : Image C) (p q : ℕ) (c : Fin C) : EReal :=
  if h : (1 ≤ p ∧ p ≤ 384) ∧ (1 ≤ q ∧ q ≤ 384) then X ⟨p - 1, by omega⟩ ⟨q - 1, by omega⟩ c else 0

/-- Inside the border the bordered image is the image. -/
theorem bordered_in {C : ℕ} (X : Image C) (y x : Fin 384) (c : Fin C) :
    bordered X (y + 1) (x + 1) c = X y x c := by
  unfold bordered
  rw [dif_pos ⟨⟨by omega, by omega⟩, by omega, by omega⟩]
  congr 1

/-- A row of the border is zero. -/
theorem bordered_row {C : ℕ} (X : Image C) (p q : ℕ) (c : Fin C) (h : p = 0 ∨ p = 385) : bordered X p q c = 0 := by
  unfold bordered; rw [dif_neg (by omega)]

/-- A column of the border is zero. -/
theorem bordered_col {C : ℕ} (X : Image C) (p q : ℕ) (c : Fin C) (h : q = 0 ∨ q = 385) : bordered X p q c = 0 := by
  unfold bordered; rw [dif_neg (by omega)]

/-- One tap: the channel product of the bordered image at a cell with a weight column. -/
def tap {C : ℕ} (X : Image C) (w : Fin C → EReal) (p q : ℕ) : EReal := ∑ c, bordered X p q c * w c

/-- A tap on a column of the border is zero. -/
theorem tap_col {C : ℕ} (X : Image C) (w : Fin C → EReal) (p q : ℕ) (h : q = 0 ∨ q = 385) : tap X w p q = 0 :=
  Finset.sum_eq_zero fun c _ => by rw [bordered_col X p q c h, zero_mul]

/-- The convolution's value at a cell: the nine taps, the bias, the clamp at zero. -/
def convAt {C : ℕ} (X : Image C) (w : Fin 3 → Fin 3 → Fin C → EReal) (b : EReal) (y x : Fin 384) : EReal :=
  max ((∑ i : Fin 3, ∑ j : Fin 3, tap X (w i j) (y + i) (x + j)) + b) 0

/-- The three taps of one column of the stencil, added top row first. -/
def column {C : ℕ} (X : Image C) (w : Fin 3 → Fin C → EReal) (p q : ℕ) : EReal :=
  tap X (w 0) p q + (tap X (w 1) (p + 1) q + tap X (w 2) (p + 2) q)

/-- The convolution by columns of the stencil: the left and right columns are left out where they would read the border. -/
theorem conv_of_columns {C : ℕ} (X : Image C) (w : Fin 3 → Fin 3 → Fin C → EReal) (b : EReal) (y x : Fin 384) :
    max ((if 1 ≤ (x : ℕ) then column X (fun i => w i 0) y x else 0) + column X (fun i => w i 1) y (x + 1)
      + (if (x : ℕ) ≤ 382 then column X (fun i => w i 2) y (x + 2) else 0) + b) 0 = convAt X w b y x := by
  have h0 : (if 1 ≤ (x : ℕ) then column X (fun i => w i 0) y x else 0) = column X (fun i => w i 0) y x := by
    split
    · rfl
    · unfold column; simp only [tap_col X _ _ _ (Or.inl (show (x : ℕ) = 0 by omega)), add_zero]
  have h2 : (if (x : ℕ) ≤ 382 then column X (fun i => w i 2) y (x + 2) else 0) = column X (fun i => w i 2) y (x + 2) := by
    split
    · rfl
    · unfold column; simp only [tap_col X _ _ _ (Or.inr (show (x : ℕ) + 2 = 385 by omega)), add_zero]
  rw [h0, h2]
  unfold convAt column
  simp only [Fin.sum_univ_three, Fin.val_zero, Fin.val_one, Fin.val_two, add_zero]
  congr 2
  abel

/-- The convolution by rows of the stencil, accumulated one tap at a time from zero. -/
theorem conv_of_taps {C : ℕ} (X : Image C) (w : Fin 3 → Fin 3 → Fin C → EReal) (b : EReal) (y x : Fin 384) :
    max (0 + tap X (w 0 0) y x + tap X (w 0 1) y (x + 1) + tap X (w 0 2) y (x + 2)
      + tap X (w 1 0) (y + 1) x + tap X (w 1 1) (y + 1) (x + 1) + tap X (w 1 2) (y + 1) (x + 2)
      + tap X (w 2 0) (y + 2) x + tap X (w 2 1) (y + 2) (x + 1) + tap X (w 2 2) (y + 2) (x + 2) + b) 0 = convAt X w b y x := by
  unfold convAt
  simp only [Fin.sum_univ_three, Fin.val_zero, Fin.val_one, Fin.val_two, add_zero]
  congr 2
  abel

/-- One component of the direction field before normalising: the product of 32 features with a weight row, and a bias. -/
def direction (H w : Fin 32 → EReal) (b : EReal) : EReal := (∑ o, H o * w o) + b

/-- One convolution of a batch of two images. -/
def layer {C O : ℕ} (X : Fin 2 → Image C) (w : Fin O → Fin 3 → Fin 3 → Fin C → EReal) (b : Fin O → EReal) : Fin 2 → Image O :=
  fun n y x o => convAt (X n) (w o) (b o) y x

/-- The direction field before normalising: three convolutions, then the two components. -/
def field (X : Fin 2 → Image 96) (w1 : Fin 64 → Fin 3 → Fin 3 → Fin 96 → EReal) (b1 : Fin 64 → EReal)
    (w2 : Fin 64 → Fin 3 → Fin 3 → Fin 64 → EReal) (b2 : Fin 64 → EReal) (w3 : Fin 32 → Fin 3 → Fin 3 → Fin 64 → EReal)
    (b3 : Fin 32 → EReal) (w4 : Fin 2 → Fin 32 → EReal) (b4 : Fin 2 → EReal) (n : Fin 2) (y x : Fin 384) (k : Fin 2) : EReal :=
  direction (layer (layer (layer X w1 b1) w2 b2) w3 b3 n y x) (w4 k) (b4 k)

end Cert.Spec
-- ==== Proof.RefLine.lean ====
/- Runs of the reference in pieces: what one printed part of `main` does to the contents, and how two parts join. -/
module

public import proofs.«01_k».proof.Proof.Spec
public import proofs.«01_k».proof.Proof.Gen.ReferenceIdeal
public import Idealize.ShloMosaic.Lib.Pointwise
public import Idealize.ShloMosaic.Lib.Claim

@[expose] public section

set_option maxRecDepth 16384

noncomputable section

namespace Cert.ReferenceIdeal.Val

open Idealize.ShloMosaic Idealize.ShloMosaic.TcCoe Idealize.SL.Sem
open Cert.ReferenceIdeal Cert.ReferenceIdeal.Gen Cert.Spec
open Idealize.ShloMosaic.StableHlo (after IsSeq)

/-- Contents of the reference's buffers. -/
abbrev Mem := Valuation τ sig (Elt Ideal)

/-- What a buffer holds. -/
abbrev Mem.at (σ : Mem) (r : Ref sig .tc) := σ (Proc.devRef .tc r)

/-- A program of one line of host operations relates the contents before it to those after it. -/
def Line (p : Dev nD → Prog (TpuEff nD τ sig (Elt Ideal) (Pipeline.Sig Λ₀ (Fin 0) fun p => (pcfgs (F := Ideal) p).Adm) .tc) PUnit)
    (Q : Mem → Mem → Prop) : Prop :=
  ∃ ops : List (HloOp τ sig (Elt Ideal)), (∀ d, IsSeq (p d) ops) ∧ (ops.Forall fun op => op.bufs ⊆ StableHlo.tcRefs τ sig)
    ∧ (∀ op ∈ ops, op.fresh = ∅) ∧ ∀ σ, Q σ (after ops σ)

/-- Contents after two lines, the second from where the first ended. -/
theorem after_two (l₁ l₂ : List (HloOp τ sig (Elt Ideal))) (σ : Mem) : after (l₁ ++ l₂) σ = after l₂ (after l₁ σ) := by
  induction l₁ generalizing σ with
  | nil => rfl
  | cons op l ih => exact ih _

/-- Two lines one after the other are a line, through the contents between them. -/
theorem Line.then {p q : Dev nD → Prog (TpuEff nD τ sig (Elt Ideal) (Pipeline.Sig Λ₀ (Fin 0) fun p => (pcfgs (F := Ideal) p).Adm) .tc) PUnit}
    {Q R : Mem → Mem → Prop} (hp : Line p Q) (hq : Line q R) :
    Line (fun d => p d >>= fun _ => q d) fun σ σ'' => ∃ σ', Q σ σ' ∧ R σ' σ'' := by
  obtain ⟨l₁, h₁, b₁, f₁, r₁⟩ := hp
  obtain ⟨l₂, h₂, b₂, f₂, r₂⟩ := hq
  refine ⟨l₁ ++ l₂, fun d => ?_, ?_, ?_, fun σ => ⟨after l₁ σ, r₁ σ, ?_⟩⟩
  · have e₁ := h₁ d; have e₂ := h₂ d
    unfold IsSeq at e₁ e₂ ⊢
    rw [StableHlo.seq_append, ← e₁, ← e₂]
  · rw [List.forall_iff_forall_mem] at *
    intro op h
    rcases List.mem_append.mp h with h | h
    · exact b₁ op h
    · exact b₂ op h
  · intro op h
    rcases List.mem_append.mp h with h | h
    · exact f₁ op h
    · exact f₂ op h
  · rw [after_two]; exact r₂ _

/-- The arguments hold what they held. -/
def Kept (σ σ' : Mem) : Prop :=
  σ'.at main_arg0 = σ.at main_arg0 ∧ σ'.at main_arg1 = σ.at main_arg1 ∧ σ'.at main_arg2 = σ.at main_arg2
    ∧ σ'.at main_arg3 = σ.at main_arg3 ∧ σ'.at main_arg4 = σ.at main_arg4 ∧ σ'.at main_arg5 = σ.at main_arg5
    ∧ σ'.at main_arg6 = σ.at main_arg6 ∧ σ'.at main_arg7 = σ.at main_arg7 ∧ σ'.at main_arg8 = σ.at main_arg8
    ∧ σ'.at main_arg9 = σ.at main_arg9

theorem Kept.trans {σ σ' σ'' : Mem} (h : Kept σ σ') (h' : Kept σ' σ'') : Kept σ σ'' := by
  obtain ⟨a0, a1, a2, a3, a4, a5, a6, a7, a8, a9⟩ := h
  obtain ⟨b0, b1, b2, b3, b4, b5, b6, b7, b8, b9⟩ := h'
  exact ⟨b0.trans a0, b1.trans a1, b2.trans a2, b3.trans a3, b4.trans a4, b5.trans a5, b6.trans a6, b7.trans a7,
    b8.trans a8, b9.trans a9⟩

/-- The nine taps of a stencil, accumulated by rows. -/
def taps {C : ℕ} (X : Image C) (w : Fin 3 → Fin 3 → Fin C → EReal) (y x : ℕ) : EReal :=
  tap X (w 0 0) y x + tap X (w 0 1) y (x + 1) + tap X (w 0 2) y (x + 2)
      + tap X (w 1 0) (y + 1) x + tap X (w 1 1) (y + 1) (x + 1) + tap X (w 1 2) (y + 1) (x + 2)
      + tap X (w 2 0) (y + 2) x + tap X (w 2 1) (y + 2) (x + 1) + tap X (w 2 2) (y + 2) (x + 2)

/-- The taps, the bias and the clamp are the convolution. -/
theorem conv_taps {C : ℕ} (X : Image C) (w : Fin 3 → Fin 3 → Fin C → EReal) (b : EReal) (y x : Fin 384) :
    max (taps X w y x + b) 0 = convAt X w b y x := by
  rw [← conv_of_taps, zero_add]; rfl

/-- The sum of two extended reals. -/
def plus (a b : EReal) : EReal := a + b

/-- The clamp at zero of a value and its bias. -/
def clamp (a b : EReal) : EReal := max (a + b) 0

/-- A padded operand of 96 channels read at a cell is the bordered image. -/
theorem pad_read96 (X : FVec Ideal S2x96x384x384 .f32) (b : Fin 2) (c : Fin 96) (p q : Fin 386) :
    pad S2x96x386x386 ![0, 0, 1, 1] ![0, 0, 1, 1] ![0, 0, 0, 0] X (sitofp .f32 (constantI S_ 32 0#32))
      pads_S2x96x384x384_S2x96x386x386_000_000_110_110 h_S_ (ix4 b c p q)
      = bordered (fun y x c => X (ix4 b c y x)) p q c := by
  unfold bordered
  pointwise
  refine dite_congr (propext (by omega)) (fun _ => rfl) fun _ => ?_
  show (((0#32 : BitVec 32).toInt : ℝ) : EReal) = 0
  simp

/-- A padded operand of 64 channels read at a cell is the bordered image. -/
theorem pad_read64 (X : FVec Ideal S2x64x384x384 .f32) (b : Fin 2) (c : Fin 64) (p q : Fin 386) :
    pad S2x64x386x386 ![0, 0, 1, 1] ![0, 0, 1, 1] ![0, 0, 0, 0] X (sitofp .f32 (constantI S_ 32 0#32))
      pads_S2x64x384x384_S2x64x386x386_000_000_110_110 h_S_ (ix4 b c p q)
      = bordered (fun y x c => X (ix4 b c y x)) p q c := by
  unfold bordered
  pointwise
  refine dite_congr (propext (by omega)) (fun _ => rfl) fun _ => ?_
  show (((0#32 : BitVec 32).toInt : ℝ) : EReal) = 0
  simp

end Cert.ReferenceIdeal.Val
-- ==== Proof.RefConv.lean ====
/- The reference's convolutions, part by part: what each part of `main` leaves in the buffers the next part reads. -/
module

public import proofs.«01_k».proof.Proof.RefLine

@[expose] public section

set_option maxRecDepth 16384

noncomputable section

namespace Cert.ReferenceIdeal.Val

open Idealize.ShloMosaic Idealize.ShloMosaic.TcCoe Idealize.SL.Sem
open Cert.ReferenceIdeal Cert.ReferenceIdeal.Gen Cert.Spec
open Idealize.ShloMosaic.StableHlo (after IsSeq)

set_option maxHeartbeats 1600000 in
/-- The first part: the first convolution's taps and its bias. -/
theorem part0 : Line (main_part0 (F := Ideal)) fun σ σ' => Kept σ σ'
    ∧ (∀ (b : Fin 2) (o : Fin 64) (y x : Fin 384), σ'.at main_v55 (ix4 b o y x) =
       taps (fun y x c => σ.at main_arg0 (ix4 b c y x)) (fun i j c => σ.at main_arg2 (ix4 o c i j)) y x)
    ∧ (∀ (b : Fin 2) (o : Fin 64) (y x : Fin 384), σ'.at main_v57 (ix4 b o y x) = σ.at main_arg3 (ix1 o)) := by
  refine ⟨_, by hlo_seq, by simp, (by intro _ h; (repeat (cases h with | head => rfl | tail _ h => ?_)); exact nomatch h),
    fun σ => ⟨?_, ?_, ?_⟩⟩
  · unfold Kept Mem.at; refine ⟨?_, ?_, ?_, ?_, ?_, ?_, ?_, ?_, ?_, ?_⟩ <;> after_results
  · intro b o y x
    unfold Mem.at
    after_results
    simp -implicitDefEqProofs only [StableHlo.TRef.toBuf, StableHlo.TRef.ofBuf, cast_eq]
    generalize σ (Proc.devRef .tc main_arg0) = X
    generalize σ (Proc.devRef .tc main_arg2) = W
    have key := pad_read96 X
    generalize pad S2x96x386x386 _ _ _ X _ _ _ = P at key ⊢
    pointwise [key, taps, tap]
    simp only [@mul_comm EReal _ (W _), add_comm 1, add_comm 2]
  · intro b o y x
    unfold Mem.at
    after_results
    pointwise

set_option maxHeartbeats 1600000 in
/-- The second part: the first clamp and the second convolution's taps. -/
theorem part1 : Line (main_part1 (F := Ideal)) fun σ σ' => Kept σ σ'
    ∧ (∀ (b : Fin 2) (o : Fin 64) (y x : Fin 384), σ'.at main_v115 (ix4 b o y x) =
       taps (fun y x c => clamp (σ.at main_v55 (ix4 b c y x)) (σ.at main_v57 (ix4 b c y x)))
        (fun i j c => σ.at main_arg4 (ix4 o c i j)) y x) := by
  refine ⟨_, by hlo_seq, by simp, (by intro _ h; (repeat (cases h with | head => rfl | tail _ h => ?_)); exact nomatch h),
    fun σ => ⟨?_, ?_⟩⟩
  · unfold Kept Mem.at; refine ⟨?_, ?_, ?_, ?_, ?_, ?_, ?_, ?_, ?_, ?_⟩ <;> after_results
  · intro b o y x
    unfold Mem.at
    after_results
    simp -implicitDefEqProofs only [StableHlo.TRef.toBuf, StableHlo.TRef.ofBuf, cast_eq]
    generalize σ (Proc.devRef .tc main_v55) = X
    generalize σ (Proc.devRef .tc main_v57) = B
    generalize σ (Proc.devRef .tc main_arg4) = W
    have hR : ∀ c y x, maximumf (F := Ideal) (s := S2x64x384x384) (φ := .f32) (addf X B)
        (broadcastInDim S2x64x384x384 ![] bcast_S_S2x64x384x384 (constant S_ .f32 0x00000000#32)) (ix4 b c y x)
          = clamp (X (ix4 b c y x)) (B (ix4 b c y x)) := by
      intro c y x; pointwise [clamp]
    generalize maximumf (F := Ideal) (s := S2x64x384x384) (φ := .f32) (addf X B) _ = R at hR ⊢
    simp only [← hR]
    have key := pad_read64 R
    generalize pad S2x64x386x386 _ _ _ R _ _ _ = P at key ⊢
    pointwise [key, taps, tap]
    simp only [@mul_comm EReal _ (W _), add_comm 1, add_comm 2]

set_option maxHeartbeats 1600000 in
/-- The third part: the second clamp and the third convolution's taps, the last of them not yet transposed. -/
theorem part2 : Line (main_part2 (F := Ideal)) fun σ σ' => Kept σ σ'
    ∧ (∀ (b : Fin 2) (o : Fin 32) (y x : Fin 384),
      plus (σ'.at main_v169 (ix4 b o y x)) (σ'.at main_v173 (ix4 o b y x)) =
       taps (fun y x c => clamp (σ.at main_v115 (ix4 b c y x)) (σ.at main_arg5 (ix1 c)))
        (fun i j c => σ.at main_arg6 (ix4 o c i j)) y x) := by
  refine ⟨_, by hlo_seq, by simp, (by intro _ h; (repeat (cases h with | head => rfl | tail _ h => ?_)); exact nomatch h),
    fun σ => ⟨?_, ?_⟩⟩
  · unfold Kept Mem.at; refine ⟨?_, ?_, ?_, ?_, ?_, ?_, ?_, ?_, ?_, ?_⟩ <;> after_results
  · intro b o y x
    unfold Mem.at
    after_results
    simp -implicitDefEqProofs only [StableHlo.TRef.toBuf, StableHlo.TRef.ofBuf, cast_eq]
    generalize σ (Proc.devRef .tc main_v115) = X
    generalize σ (Proc.devRef .tc main_arg5) = B
    generalize σ (Proc.devRef .tc main_arg6) = W
    have hR : ∀ c y x, maximumf (F := Ideal) (s := S2x64x384x384) (φ := .f32) (addf X
        (broadcastInDim S2x64x384x384 ![0, 1, 2, 3] bcast_S1x64x1x1_S2x64x384x384_0_1_2_3
          (broadcastInDim S1x64x1x1 ![1] bcast_S64_S1x64x1x1_1 B)))
        (broadcastInDim S2x64x384x384 ![] bcast_S_S2x64x384x384 (constant S_ .f32 0x00000000#32)) (ix4 b c y x)
          = clamp (X (ix4 b c y x)) (B (ix1 c)) := by
      intro c y x; pointwise [clamp]
    generalize maximumf (F := Ideal) (s := S2x64x384x384) (φ := .f32) (addf X _) _ = R at hR ⊢
    simp only [← hR]
    have key := pad_read64 R
    generalize pad S2x64x386x386 _ _ _ R _ _ _ = P at key ⊢
    pointwise [key, taps, tap, plus]
    simp only [@mul_comm EReal _ (W _), add_comm 1, add_comm 2]

end Cert.ReferenceIdeal.Val
-- ==== Proof.RefHead.lean ====
/- The reference's head: the direction field, and where each pixel of the first image votes. -/
module

public import proofs.«01_k».proof.Proof.RefLine

@[expose] public section

set_option maxRecDepth 16384

noncomputable section

namespace Cert.ReferenceIdeal.Val

open Idealize.ShloMosaic Idealize.ShloMosaic.TcCoe Idealize.SL.Sem
open Cert.ReferenceIdeal Cert.ReferenceIdeal.Gen Cert.Spec
open Idealize.ShloMosaic.StableHlo (after IsSeq)

/-- The reference's normalised component: divided by the length, bounded below. -/
def unitR (d d0 d1 : EReal) : EReal := Ideal.div d (max (Ideal.sqrt (d0 * d0 + d1 * d1)) (Ideal.ofBits .f32 0x2B8CBCCC#32))

/-- A component of the direction field from the third convolution's sums. -/
def dirOf (σ : Mem) (b : Fin 2) (y x : Fin 384) (k : Fin 2) : EReal :=
  direction (fun o => clamp (plus (σ.at main_v169 (ix4 b o y x)) (σ.at main_v173 (ix4 o b y x))) (σ.at main_arg7 (ix1 o)))
    (fun o => σ.at main_arg8 (ix4 k o 0 0)) (σ.at main_arg9 (ix1 k))

/-- The cell a coordinate and its offset point to, as a word: the sum held to the image, its fraction dropped. -/
def cell (p : ℕ) (d : EReal) : BitVec 32 :=
  FloatOps.fptosi (F := Ideal) (φ := .f32) 32 (min (FloatOps.sitofp (F := Ideal) .f32 383#32)
    (max (FloatOps.sitofp (F := Ideal) .f32 0#32) (FloatOps.sitofp (F := Ideal) .f32 (BitVec.ofNat 32 p) + d : EReal)))

/-- The flat number of the cell a pixel votes for. -/
def place (y x : ℕ) (dx dy : EReal) : BitVec 32 := IntOp.addi (IntOp.muli (cell y dy) 384#32) (cell x dx)

/-- The row of a flat number. -/
def row (n : Fin 147456) : Fin 384 := ⟨n / 384, by omega⟩

/-- The column of a flat number. -/
def col (n : Fin 147456) : Fin 384 := ⟨n % 384, by omega⟩

/-- A pixel's flat cell number from the direction field of one image. -/
def placeAt (D : FVec Ideal S2x2x384x384 .f32) (b : Fin 2) (n : Fin 147456) : BitVec 32 :=
  place (row n) (col n) (D (ix4 b 0 (row n) (col n))) (D (ix4 b 1 (row n) (col n)))

/-- One where the label is the class, zero elsewhere. -/
def memberAt (L : IVec S2x384x384 32) (b : Fin 2) (k : BitVec 32) (n : Fin 147456) : EReal :=
  FloatOps.uitofp (F := Ideal) .f32 (IntOp.cmpi .eq (L (ix3 b (row n) (col n))) k)

set_option maxHeartbeats 1600000 in
/-- The fourth part: the direction field, and the first image's cells and members of class 1. -/
theorem part3 : Line (main_part3 (F := Ideal)) fun σ σ' => Kept σ σ'
    ∧ (∀ (b : Fin 2) (k : Fin 2) (y x : Fin 384), σ'.at main_v196 (ix4 b k y x) = unitR (dirOf σ b y x k) (dirOf σ b y x 0) (dirOf σ b y x 1))
    ∧ (∀ (y x : Fin 384), σ'.at main_v198 (ix2 y x) = σ.at main_arg1 (ix3 0 y x))
    ∧ (∀ (n : Fin 147456), σ'.at main_v216 (ix1 n) = placeAt (σ'.at main_v196) 0 n)
    ∧ (∀ (n : Fin 147456), σ'.at main_v220 (ix1 n) = memberAt (σ.at main_arg1) 0 1#32 n)
    ∧ (σ'.at main_v221 = broadcastInDim S147456 ![] bcast_S_S147456 (constant (F := Ideal) S_ .f32 0x00000000#32))
    ∧ (σ'.at main_c_15 = constantI S_ 32 0#32)
    := by
  refine ⟨_, by hlo_seq, by simp, (by intro _ h; (repeat (cases h with | head => rfl | tail _ h => ?_)); exact nomatch h),
    fun σ => ⟨?_, ?_, ?_, ?_, ?_, ?_, ?_⟩⟩
  · unfold Kept Mem.at; refine ⟨?_, ?_, ?_, ?_, ?_, ?_, ?_, ?_, ?_, ?_⟩ <;> after_results
  · intro b k y x
    unfold Mem.at
    after_results
    simp -implicitDefEqProofs only [StableHlo.TRef.toBuf, StableHlo.TRef.ofBuf, cast_eq]
    unfold unitR dirOf direction Mem.at clamp plus
    generalize σ (Proc.devRef .tc main_v169) = X
    generalize σ (Proc.devRef .tc main_v173) = Y
    generalize σ (Proc.devRef .tc main_arg7) = B
    generalize σ (Proc.devRef .tc main_arg8) = W
    generalize σ (Proc.devRef .tc main_arg9) = C
    pointwise
    simp only [@mul_comm EReal _ (W _), Fin.sum_univ_two]
  · intro y x
    unfold Mem.at
    after_results
    pointwise
  · intro n
    unfold Mem.at
    after_results
    simp -implicitDefEqProofs only [StableHlo.TRef.toBuf, StableHlo.TRef.ofBuf, cast_eq]
    generalize Host.divf (F := Ideal) _ _ = D
    unfold placeAt place cell row col
    pointwise
  · intro n
    unfold Mem.at
    after_results
    simp -implicitDefEqProofs only [StableHlo.TRef.toBuf, StableHlo.TRef.ofBuf, cast_eq]
    unfold memberAt row col
    pointwise
  · unfold Mem.at; after_results
  · unfold Mem.at; after_results

end Cert.ReferenceIdeal.Val
-- ==== Proof.RefVote.lean ====
/- The reference's vote for the two centres of each image: what its parts leave, as one chain of operations of the cells and the
   members of a class. -/
module

public import proofs.«01_k».proof.Proof.RefHead

@[expose] public section

set_option maxRecDepth 16384

noncomputable section

namespace Cert.ReferenceIdeal.Val

open Idealize.ShloMosaic Idealize.ShloMosaic.TcCoe Idealize.SL.Sem
open Cert.ReferenceIdeal Cert.ReferenceIdeal.Gen Cert.Spec
open Idealize.ShloMosaic.StableHlo (after IsSeq)

/-- Zero everywhere. -/
def blank : FVec Ideal S147456 .f32 := broadcastInDim S147456 ![] bcast_S_S147456 (constant (F := Ideal) S_ .f32 0x00000000#32)

/-- The votes: every pixel's weight added to `z` at its cell, a cell number below `c` counted from the end. -/
def tallyFrom (z : FVec Ideal S147456 .f32) (c : IVec S_ 32) (cells : IVec S147456 32) (w : FVec Ideal S147456 .f32) :
    FVec Ideal S147456 .f32 :=
  Host.scatterAdd scatter_S147456_S147456x1_S147456_n_0_0_1 z
    (broadcastInDim S147456x1 ![0] bcast_S147456_S147456x1_0
      (select (cmpi .slt cells (broadcastInDim S147456 ![] bcast_S_S147456 c))
        (addi cells (broadcastInDim S147456 ![] bcast_S_S147456 (constantI S_ 32 147456#32))) cells)) w

/-- The votes from zero. -/
def tally (cells : IVec S147456 32) (w : FVec Ideal S147456 .f32) : FVec Ideal S147456 .f32 :=
  tallyFrom blank (constantI S_ 32 0#32) cells w

/-- The members of a class in one image's labels. -/
def kind (L : IVec S384x384 32) (k : BitVec 32) : FVec Ideal S147456 .f32 :=
  shapeCast S147456 (uitofp (F := Ideal) .f32 (cmpi .eq L (broadcastInDim S384x384 ![] bcast_S_S384x384 (constantI S_ 32 k))))
    shapeCasts_S384x384_S147456

/-- The flat number of the first cell with the most votes. -/
def first (V : FVec Ideal S147456 .f32) : IVec S_ 32 := fun j =>
  (Host.argReduce (reducer_argmax_f32_i32 (F := Ideal)) V (iotaInDim S147456 32 0) (constant (F := Ideal) S_ .f32 0xFF800000#32) (constantI S_ 32 0#32)
    reducesTo_S147456_S_d0 h_S_ j).2

/-- The divisor 384, guarded against zero as the remainder is printed. -/
def width : IVec S_ 32 :=
  select (cmpi .eq (id (constantI S_ 32 384#32)) (constantI S_ 32 0#32)) (constantI S_ 32 1#32) (id (constantI S_ 32 384#32))

/-- The remainder by 384, with the divisor's sign. -/
def remBy (a : IVec S_ 32) : IVec S_ 32 :=
  select (andi (cmpi .ne (cmpi .slt (Host.remsi a width) (constantI S_ 32 0#32)) (cmpi .slt width (constantI S_ 32 0#32)))
      (cmpi .ne (Host.remsi a width) (constantI S_ 32 0#32)))
    (addi (Host.remsi a width) width) (Host.remsi a width)

/-- The quotient by 384, rounded down. -/
def quotBy (a : IVec S_ 32) : IVec S_ 32 :=
  select (andi (cmpi .ne (signi a) (signi (id (constantI S_ 32 384#32))))
      (cmpi .ne (Host.remsi a (id (constantI S_ 32 384#32))) (constantI S_ 32 0#32)))
    (subi (Host.divsi a (id (constantI S_ 32 384#32))) (constantI S_ 32 1#32))
    (Host.divsi a (id (constantI S_ 32 384#32)))

/-- The centre: column and row of the first cell with the most votes, or minus one twice when the most is not above 100. -/
def crown (V : FVec Ideal S147456 .f32) : IVec S2 32 :=
  select (broadcastInDim S2 ![] bcast_S_S2
      (cmpf .ogt (Host.reduce FloatOps.maximumf V (constant (F := Ideal) S_ .f32 0xFF800000#32) reducesTo_S147456_S_d0 h_S_)
        (constant (F := Ideal) S_ .f32 0x42C80000#32)))
    (concatenate S2 0 [⟨S1, broadcastInDim S1 ![] bcast_S_S1 (remBy (first V))⟩,
      ⟨S1, broadcastInDim S1 ![] bcast_S_S1 (quotBy (first V))⟩] concatenates_S1_S1_S2_d0)
    (broadcastInDim S2 ![] bcast_S_S2 (constantI S_ 32 4294967295#32))

/-- The two centres of an image, one per class. -/
def both (a b : IVec S2 32) : IVec S2x2 32 :=
  concatenate S2x2 0 [⟨S1x2, broadcastInDim S1x2 ![1] bcast_S2_S1x2_1 a⟩, ⟨S1x2, broadcastInDim S1x2 ![1] bcast_S2_S1x2_1 b⟩]
    concatenates_S1x2_S1x2_S2x2_d0

/-- The second image's centres in the stack of both images'. -/
theorem stack_second (a b : IVec S2x2 32) (k e : Fin 2) :
    concatenate S2x2x2 0 [⟨S1x2x2, broadcastInDim S1x2x2 ![1, 2] bcast_S2x2_S1x2x2_1_2 a⟩,
      ⟨S1x2x2, broadcastInDim S1x2x2 ![1, 2] bcast_S2x2_S1x2x2_1_2 b⟩] concatenates_S1x2x2_S1x2x2_S2x2x2_d0 (ix3 1 k e) = b (ix2 k e) := by
  pointwise

set_option maxHeartbeats 1600000 in
/-- The fifth part: the first image's two centres, and the second image's labels and columns' offsets. -/
theorem part4 : Line (main_part4 (F := Ideal)) fun σ σ' => Kept σ σ' ∧ σ'.at main_v196 = σ.at main_v196
    ∧ (∀ (y x : Fin 384), σ'.at main_v265 (ix2 y x) = σ.at main_arg1 (ix3 1 y x))
    ∧ (∀ (y x : Fin 384), σ'.at main_v266 (ix4 0 0 y x) = σ.at main_v196 (ix4 1 0 y x))
    ∧ σ'.at main_v238 = crown (tallyFrom (σ.at main_v221) (σ.at main_c_15) (σ.at main_v216) (σ.at main_v220))
    ∧ σ'.at main_v260 = crown (tally (σ.at main_v216) (kind (σ.at main_v198) 2#32))
    ∧ σ'.at main_v263 = both (σ'.at main_v238) (σ'.at main_v260) := by
  refine ⟨_, by hlo_seq, by simp, (by intro _ h; (repeat (cases h with | head => rfl | tail _ h => ?_)); exact nomatch h),
    fun σ => ⟨?_, ?_, ?_, ?_, ?_, ?_, ?_⟩⟩
  · unfold Kept Mem.at; refine ⟨?_, ?_, ?_, ?_, ?_, ?_, ?_, ?_, ?_, ?_⟩ <;> after_results
  · unfold Mem.at; after_results
  · intro b k
    unfold Mem.at
    after_results
    pointwise
  · intro b k
    unfold Mem.at
    after_results
    pointwise
  · unfold Mem.at
    after_results
    simp -implicitDefEqProofs only [StableHlo.TRef.toBuf, StableHlo.TRef.ofBuf, cast_eq]
    rfl
  · unfold Mem.at
    after_results
    simp -implicitDefEqProofs only [StableHlo.TRef.toBuf, StableHlo.TRef.ofBuf, cast_eq]
    rfl
  · unfold Mem.at
    after_results
    rfl

set_option maxHeartbeats 1600000 in
/-- The sixth part: the second image's centre of class 1, its cells, and its members of class 2. -/
theorem part5 : Line (main_part5 (F := Ideal)) fun σ σ' => Kept σ σ' ∧ σ'.at main_v196 = σ.at main_v196
    ∧ σ'.at main_v263 = σ.at main_v263
    ∧ σ'.at main_v310 = blank
    ∧ σ'.at main_v309 = kind (σ.at main_v265) 2#32
    ∧ σ'.at main_v305 = crown (tally (σ'.at main_v283) (kind (σ.at main_v265) 1#32))
    ∧ ((∀ y x : Fin 384, σ.at main_v266 (ix4 0 0 y x) = σ.at main_v196 (ix4 1 0 y x)) →
        ∀ (n : Fin 147456), σ'.at main_v283 (ix1 n) = placeAt (σ.at main_v196) 1 n) := by
  refine ⟨_, by hlo_seq, by simp, (by intro _ h; (repeat (cases h with | head => rfl | tail _ h => ?_)); exact nomatch h),
    fun σ => ⟨?_, ?_, ?_, ?_, ?_, ?_, ?_⟩⟩
  · unfold Kept Mem.at; refine ⟨?_, ?_, ?_, ?_, ?_, ?_, ?_, ?_, ?_, ?_⟩ <;> after_results
  · unfold Mem.at; after_results
  · unfold Mem.at; after_results
  · unfold Mem.at; after_results; rfl
  · unfold Mem.at; after_results; rfl
  · unfold Mem.at
    after_results
    simp -implicitDefEqProofs only [StableHlo.TRef.toBuf, StableHlo.TRef.ofBuf, cast_eq]
    rfl
  · intro h n
    unfold Mem.at at h ⊢
    after_results
    simp -implicitDefEqProofs only [StableHlo.TRef.toBuf, StableHlo.TRef.ofBuf, cast_eq]
    unfold placeAt place cell row col
    simp only [← h]
    pointwise

set_option maxHeartbeats 1600000 in
/-- The seventh part: the second image's centre of class 2, and all four centres. -/
theorem part6 : Line (main_part6 (F := Ideal)) fun σ σ' => Kept σ σ' ∧ σ'.at main_v196 = σ.at main_v196
    ∧ (∀ k e : Fin 2, σ'.at main_v333 (ix3 0 k e) = σ.at main_v263 (ix2 k e))
    ∧ (∀ k e : Fin 2, σ'.at main_v333 (ix3 1 k e) = σ'.at main_v330 (ix2 k e))
    ∧ σ'.at main_v327 = crown (tallyFrom (σ.at main_v310) (constantI S_ 32 0#32) (σ.at main_v283) (σ.at main_v309))
    ∧ σ'.at main_v330 = both (σ.at main_v305) (σ'.at main_v327) := by
  refine ⟨_, by hlo_seq, by simp, (by intro _ h; (repeat (cases h with | head => rfl | tail _ h => ?_)); exact nomatch h),
    fun σ => ⟨?_, ?_, ?_, ?_, ?_, ?_⟩⟩
  · unfold Kept Mem.at; refine ⟨?_, ?_, ?_, ?_, ?_, ?_, ?_, ?_, ?_, ?_⟩ <;> after_results
  · unfold Mem.at; after_results
  · intro k e
    unfold Mem.at
    after_results
    pointwise
  · intro k e
    unfold Mem.at
    after_results
    simp -implicitDefEqProofs only [StableHlo.TRef.toBuf, StableHlo.TRef.ofBuf, cast_eq]
    exact stack_second _ _ k e
  · unfold Mem.at
    after_results
    simp -implicitDefEqProofs only [StableHlo.TRef.toBuf, StableHlo.TRef.ofBuf, cast_eq]
    rfl
  · unfold Mem.at
    after_results
    rfl

end Cert.ReferenceIdeal.Val
-- ==== Proof.RefRun.lean ====
/- The reference's run: its two results as functions of its arguments. -/
module

public import proofs.«01_k».proof.Proof.RefConv
public import proofs.«01_k».proof.Proof.RefVote
public import Idealize.ShloMosaic.Lib.Quiescent

@[expose] public section

set_option maxRecDepth 16384

noncomputable section

namespace Cert.ReferenceIdeal.Val

open Idealize.ShloMosaic Idealize.ShloMosaic.TcCoe Idealize.SL.Sem
open Cert.ReferenceIdeal Cert.ReferenceIdeal.Gen Cert.Spec
open Idealize.ShloMosaic.StableHlo (after IsSeq)

/-- The direction field before normalising, from the arguments. -/
def fieldOf (σ : Mem) : Fin 2 → Fin 384 → Fin 384 → Fin 2 → EReal :=
  field (fun n y x c => σ.at main_arg0 (ix4 n c y x)) (fun o i j c => σ.at main_arg2 (ix4 o c i j)) (fun o => σ.at main_arg3 (ix1 o))
    (fun o i j c => σ.at main_arg4 (ix4 o c i j)) (fun o => σ.at main_arg5 (ix1 o))
    (fun o i j c => σ.at main_arg6 (ix4 o c i j)) (fun o => σ.at main_arg7 (ix1 o))
    (fun k o => σ.at main_arg8 (ix4 k o 0 0)) (fun k => σ.at main_arg9 (ix1 k))

/-- The centre of a class in an image, from the normalised field and the labels. -/
def centre (D : FVec Ideal S2x2x384x384 .f32) (L : IVec S2x384x384 32) (n : Fin 2) (k : BitVec 32) : IVec S2 32 :=
  crown (tally (fun i => placeAt D n (i 0)) (fun i => memberAt L n k (i 0)))

/-- The members of a class read at a flat number. -/
theorem kind_eq (L : IVec S384x384 32) (A : IVec S2x384x384 32) (n : Fin 2) (k : BitVec 32)
    (h : ∀ y x : Fin 384, L (ix2 y x) = A (ix3 n y x)) : kind L k = fun i => memberAt A n k (i 0) := by
  funext i
  obtain ⟨a, rfl⟩ : ∃ a : Fin 147456, i = ix1 a := ⟨_, eq_ix1 i⟩
  show _ = memberAt A n k a
  unfold kind memberAt row col
  simp only [← h]
  pointwise

/-- A function of flat numbers from its values. -/
theorem flat_eq {α : Type} (f : S147456.Idx → α) (g : Fin 147456 → α) (h : ∀ n, f (ix1 n) = g n) : f = fun i => g (i 0) := by
  funext i
  obtain ⟨a, rfl⟩ : ∃ a : Fin 147456, i = ix1 a := ⟨_, eq_ix1 i⟩
  exact h a

/-- The two centres of an image read at a class. -/
theorem both_zero (a b : IVec S2 32) (e : Fin 2) : both a b (ix2 0 e) = a (ix1 e) := by
  unfold both; pointwise

/-- The second class's centre. -/
theorem both_one (a b : IVec S2 32) (e : Fin 2) : both a b (ix2 1 e) = b (ix1 e) := by
  unfold both; pointwise

/-- The reference is one line: it keeps its arguments, and leaves the normalised field and the four centres. -/
theorem whole : Line (main (F := Ideal)) fun σ σ' => Kept σ σ'
    ∧ (∀ (n k : Fin 2) (y x : Fin 384), σ'.at main_v196 (ix4 n k y x)
        = unitR (fieldOf σ n y x k) (fieldOf σ n y x 0) (fieldOf σ n y x 1))
    ∧ ∀ n e : Fin 2, σ'.at main_v333 (ix3 n 0 e) = centre (σ'.at main_v196) (σ.at main_arg1) n 1#32 (ix1 e)
      ∧ σ'.at main_v333 (ix3 n 1 e) = centre (σ'.at main_v196) (σ.at main_arg1) n 2#32 (ix1 e) := by
  obtain ⟨ops, hs, hb, hf, hq⟩ :=
    part0.then (part1.then (part2.then (part3.then (part4.then (part5.then part6)))))
  refine ⟨ops, hs, hb, hf, fun σ => ?_⟩
  obtain ⟨σ1, ⟨k0, a55, a57⟩, σ2, ⟨k1, a115⟩, σ3, ⟨k2, a169⟩, σ4, ⟨k3, a196, a198, a216, a220, a221, a15⟩, σ5,
    ⟨k4, b196, b265, b266, b238, b260, b263⟩, σ6, ⟨k5, c196, c263, c310, c309, c305, c283⟩, k6, d196, d0, d1, d327, d330⟩ := hq σ
  revert k6 d196 d0 d1 d327 d330
  generalize (after ops σ : Mem) = σ7
  intro k6 d196 d0 d1 d327 d330
  have r1 := k0
  have r2 := r1.trans k1
  have r3 := r2.trans k2
  have r4 := r3.trans k3
  have r5 := r4.trans k4
  have r6 := r5.trans k5
  refine ⟨r6.trans k6, ?_, ?_⟩
  · intro n k y x
    rw [d196, c196, b196, a196]
    have e : ∀ k, dirOf σ3 n y x k = fieldOf σ n y x k := by
      intro k
      unfold dirOf fieldOf field
      obtain ⟨_, _, _, _, _, _, _, s7, s8, s9⟩ := r3
      obtain ⟨_, _, _, _, _, s5, s6, _⟩ := r2
      obtain ⟨_, _, _, s3, s4, _⟩ := r1
      simp only [a169, s7, s8, s9, s5, s6, a115, s4, a55, a57, clamp, conv_taps]
      rfl
    rw [e, e, e]
  · have L1 : σ4.at main_arg1 = σ.at main_arg1 := r4.2.1
    have L0 : σ3.at main_arg1 = σ.at main_arg1 := r3.2.1
    have f216 := flat_eq _ _ a216
    have f220 := flat_eq _ _ a220
    have f283 := flat_eq _ _ (c283 (fun y x => (b266 y x).trans (congrFun b196 _).symm))
    have m198 := kind_eq (σ4.at main_v198) (σ.at main_arg1) 0 2#32 fun y x => (a198 y x).trans (congrFun L0 _)
    have m265 := fun k => kind_eq (σ5.at main_v265) (σ.at main_arg1) 1 k fun y x => (b265 y x).trans (congrFun L1 _)
    have D : Mem.at σ7 main_v196 = σ4.at main_v196 := d196.trans (c196.trans b196)
    have D5 : σ5.at main_v196 = σ4.at main_v196 := b196
    intro n e
    obtain rfl | rfl : n = 0 ∨ n = 1 := by omega
    · refine ⟨(d0 0 e).trans ?_, (d0 1 e).trans ?_⟩
      · rw [c263, b263, both_zero, b238, a221, a15, f216, f220, D, L0]; rfl
      · rw [c263, b263, both_one, b260, m198, f216, D]; rfl
    · refine ⟨(d1 0 e).trans ?_, (d1 1 e).trans ?_⟩
      · rw [d330, both_zero, c305, m265, f283, D, D5]; rfl
      · rw [d330, both_one, d327, c310, c309, m265, f283, D, D5]; rfl

/-- The reference's run: it ends idle, with the contents `whole` says. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r =>
      (∀ d : Dev nD, ∃ σ' : Mem, (∀ b : Ref sig .tc, r.2.mem ((d.tc : Thread nD τ).loc b) = σ'.at b)
        ∧ Kept (StableHlo.launchContents m d) σ'
        ∧ (∀ (n k : Fin 2) (y x : Fin 384), σ'.at main_v196 (ix4 n k y x)
          = unitR (fieldOf (StableHlo.launchContents m d) n y x k) (fieldOf (StableHlo.launchContents m d) n y x 0)
              (fieldOf (StableHlo.launchContents m d) n y x 1))
        ∧ ∀ n e : Fin 2,
          σ'.at main_v333 (ix3 n 0 e)
            = centre (σ'.at main_v196) (Mem.at (StableHlo.launchContents m d) main_arg1) n 1#32 (ix1 e)
          ∧ σ'.at main_v333 (ix3 n 1 e)
            = centre (σ'.at main_v196) (Mem.at (StableHlo.launchContents m d) main_arg1) n 2#32 (ix1 e))
      ∧ r.2.sem = fun _ => 0 := by
  obtain ⟨ops, hs, hb, hf, hq⟩ := whole
  refine θ_run_mono (StableHlo.run_hlo (defs (F := Ideal)) (main (F := Ideal)) hs (by decide) (by decide) hb hf m ρ) ?_
  intro r h
  exact ⟨fun d => ⟨_, h d, hq _⟩, sem_eq_zero_of_no_sems rfl _⟩

end Cert.ReferenceIdeal.Val
-- ==== Proof.Votes.lean ====
/- Counting votes: pixels vote for a neighbouring cell, counted by scattering every pixel's vote or by gathering, for each
   cell, the votes of its nine neighbours. -/
module

public import Idealize.ShloMosaic.Lib.Pointwise

@[expose] public section

noncomputable section

namespace Cert.Spec

/-- One vote when the statement holds. -/
abbrev vote (p : Prop) [Decidable p] : EReal := if p then 1 else 0

/-- The row or column `j - 1` steps back, wrapping around. -/
def back (y : Fin 384) (j : Fin 3) : Fin 384 := ⟨(y + 385 - j) % 384, Nat.mod_lt _ (by decide)⟩

/-- The votes a cell receives: one for each pixel of the class (`M`) whose row and column of voting (`R`, `C`) are the cell's. -/
def scattered (M : Fin 384 → Fin 384 → Prop) [∀ y x, Decidable (M y x)] (R C : Fin 384 → Fin 384 → ℕ) (y x : Fin 384) : EReal :=
  ∑ p : Fin 384 × Fin 384, vote (M p.1 p.2 ∧ R p.1 p.2 = y ∧ C p.1 p.2 = x)

/-- The votes gathered from the neighbour `j - 1` rows and `k - 1` columns back, which votes that much ahead of itself. -/
def gathered (M : Fin 384 → Fin 384 → Prop) [∀ y x, Decidable (M y x)] (R C : Fin 384 → Fin 384 → ℕ) (y x : Fin 384) (j k : Fin 3) : EReal :=
  vote ((M (back y j) (back x k) ∧ R (back y j) (back x k) + 1 = back y j + j) ∧ C (back y j) (back x k) + 1 = back x k + k)

/-- A vote one cell ahead at most lies in the picture and comes from the neighbour the shift points to. -/
theorem back_iff (y s : Fin 384) (j : Fin 3) (r : ℕ) (hr : r < 384) : (r = y ∧ r + 1 = s + j) ↔ (s = back y j ∧ r + 1 = s + j) := by
  have hy := y.isLt; have hs := s.isLt; have hj := j.isLt
  have hb : ((back y j : Fin 384) : ℕ) = (y + 385 - j) % 384 := rfl
  constructor
  · rintro ⟨h1, h2⟩; exact ⟨Fin.ext (by rw [hb]; omega), h2⟩
  · rintro ⟨h1, h2⟩; have := congrArg Fin.val h1; rw [hb] at this; exact ⟨by omega, h2⟩

/-- Scattering and gathering count the same votes when every pixel votes at most one row and one column away, inside the picture. -/
theorem gathered_eq_scattered (M : Fin 384 → Fin 384 → Prop) [∀ y x, Decidable (M y x)] (R C : Fin 384 → Fin 384 → ℕ)
    (hR : ∀ y x, R y x < 384 ∧ R y x ≤ y + 1 ∧ (y : ℕ) ≤ R y x + 1) (hC : ∀ y x, C y x < 384 ∧ C y x ≤ x + 1 ∧ (x : ℕ) ≤ C y x + 1)
    (y x : Fin 384) : ∑ j : Fin 3, ∑ k : Fin 3, gathered M R C y x j k = scattered M R C y x := by
  have hone : ∀ p : Fin 384 × Fin 384, vote (M p.1 p.2 ∧ R p.1 p.2 = y ∧ C p.1 p.2 = x)
      = ∑ j : Fin 3, ∑ k : Fin 3, vote ((M p.1 p.2 ∧ R p.1 p.2 = y ∧ C p.1 p.2 = x) ∧ R p.1 p.2 + 1 = p.1 + j ∧ C p.1 p.2 + 1 = p.2 + k) := by
    intro p
    have h1 := hR p.1 p.2
    have h2 := hC p.1 p.2
    rw [Finset.sum_eq_single (⟨R p.1 p.2 + 1 - p.1, by omega⟩ : Fin 3) ?_ (by simp),
      Finset.sum_eq_single (⟨C p.1 p.2 + 1 - p.2, by omega⟩ : Fin 3) ?_ (by simp)]
    · refine if_congr ?_ rfl rfl
      refine ⟨fun h => ⟨h, ?_, ?_⟩, fun h => h.1⟩ <;> simp only <;> omega
    · intro k _ hk
      refine if_neg fun h => hk (Fin.ext ?_)
      have := h.2.2; simp only; omega
    · intro j _ hj
      refine Finset.sum_eq_zero fun k _ => if_neg fun h => hj (Fin.ext ?_)
      have := h.2.1; simp only; omega
  unfold scattered
  refine Eq.symm ((Finset.sum_congr rfl fun p _ => hone p).trans (Finset.sum_comm.trans (Finset.sum_congr rfl fun j _ =>
    Finset.sum_comm.trans (Finset.sum_congr rfl fun k _ => ?_))))
  rw [Finset.sum_eq_single (back y j, back x k) ?_ (by simp)]
  · unfold gathered
    refine if_congr ?_ rfl rfl
    have h1 := back_iff y (back y j) j _ (hR (back y j) (back x k)).1
    have h2 := back_iff x (back x k) k _ (hC (back y j) (back x k)).1
    tauto
  · intro p _ hp
    refine if_neg fun h => hp ?_
    have h1 := (back_iff y p.1 j _ (hR p.1 p.2).1).mp ⟨h.1.2.1, h.2.1⟩
    have h2 := (back_iff x p.2 k _ (hC p.1 p.2).1).mp ⟨h.1.2.2, h.2.2⟩
    exact Prod.ext h1.1 h2.1

/-- The highest value of a table and the first place that has it. -/
structure Peak {N : ℕ} (V : Fin N → EReal) (M : EReal) (i : Fin N) : Prop where
  top : ∀ n, V n ≤ M
  here : V i = M
  before : ∀ n, n < i → V n < M

/-- A table has one highest value and one first place. -/
theorem Peak.unique {N : ℕ} {V : Fin N → EReal} {M M' : EReal} {i i' : Fin N} (h : Peak V M i) (h' : Peak V M' i') : M = M' ∧ i = i' := by
  have hM : M = M' := le_antisymm (h.here ▸ h'.top i) (h'.here ▸ h.top i')
  subst hM
  refine ⟨rfl, ?_⟩
  rcases lt_trichotomy i i' with hlt | heq | hgt
  · exact absurd h.here (h'.before i hlt).ne
  · exact heq
  · exact absurd h'.here (h.before i' hgt).ne

end Cert.Spec
-- ==== Proof.Largest.lean ====
/- The highest value of a table and its first place, as folds over a list and over a set find them, and the row and column of a
   flat place. -/
module

public import proofs.«01_k».proof.Proof.Votes

@[expose] public section

noncomputable section

namespace Cert.Spec

open Idealize.ShloMosaic

/-- The better of two places: the higher value, on a tie the smaller place. -/
def better (a b : EReal × BitVec 32) : EReal × BitVec 32 :=
  (if b.1 < a.1 then a.1 else b.1, if b.1 < a.1 ∨ (a.1 = b.1 ∧ a.2.slt b.2) then a.2 else b.2)

/-- Small numbers as signed words are ordered as numbers. -/
theorem slt_small {a b : ℕ} (ha : a < 2 ^ 31) (hb : b < 2 ^ 31) : (BitVec.ofNat 32 a).slt (BitVec.ofNat 32 b) = true ↔ a < b := by
  rw [BitVec.slt_iff_toInt_lt, BitVec.toInt_eq_toNat_of_lt (by rw [BitVec.toNat_ofNat]; omega),
    BitVec.toInt_eq_toNat_of_lt (by rw [BitVec.toNat_ofNat]; omega), BitVec.toNat_ofNat, BitVec.toNat_ofNat]
  omega

/-- Folding the rest of the places, in order, onto a first place finds the highest value's first place among them. -/
theorem better_rest {N : ℕ} (hN : N ≤ 2 ^ 31) (V : Fin N → EReal) (l : List (Fin N)) : ∀ i : Fin N, (i :: l).Pairwise (· < ·) →
    ∃ m ∈ i :: l, (l.map fun n => (V n, BitVec.ofNat 32 n)).foldl better (V i, BitVec.ofNat 32 i) = (V m, BitVec.ofNat 32 m)
      ∧ ∀ n ∈ i :: l, V n ≤ V m ∧ (n < m → V n < V m) := by
  induction l with
  | nil => intro i _; exact ⟨i, by simp, rfl, by intro n hn; rw [List.mem_singleton] at hn; subst hn; exact ⟨le_rfl, fun h => absurd h (lt_irrefl _)⟩⟩
  | cons a l ih =>
    intro i hp
    have hia : i < a := (List.pairwise_cons.mp hp).1 a (by simp)
    have hil : ∀ n ∈ l, i < n := fun n hn => (List.pairwise_cons.mp hp).1 n (by simp [hn])
    have hal : (a :: l).Pairwise (· < ·) := (List.pairwise_cons.mp hp).2
    have hs : (BitVec.ofNat 32 (i : ℕ)).slt (BitVec.ofNat 32 (a : ℕ)) = true :=
      (slt_small (by have := i.isLt; omega) (by have := a.isLt; omega)).mpr hia
    rw [List.map_cons, List.foldl_cons]
    by_cases h : V a ≤ V i
    · have hb : better (V i, BitVec.ofNat 32 i) (V a, BitVec.ofNat 32 a) = (V i, BitVec.ofNat 32 i) := by
        rcases lt_or_eq_of_le h with hlt | heq
        · simp [better, hlt]
        · simp [better, heq, hs]
      rw [hb]
      obtain ⟨m, hm, e, hall⟩ := ih i (List.pairwise_cons.mpr ⟨hil, (List.pairwise_cons.mp hal).2⟩)
      refine ⟨m, by rcases List.mem_cons.mp hm with rfl | hm <;> simp [*], e, fun n hn => ?_⟩
      rcases List.mem_cons.mp hn with rfl | hn
      · exact hall _ (by simp)
      rcases List.mem_cons.mp hn with rfl | hn
      · refine ⟨h.trans (hall i (by simp)).1, fun hlt => ?_⟩
        exact lt_of_le_of_lt h ((hall i (by simp)).2 (hia.trans hlt))
      · exact hall _ (by simp [hn])
    · have h' : V i < V a := not_le.mp h
      have hb : better (V i, BitVec.ofNat 32 i) (V a, BitVec.ofNat 32 a) = (V a, BitVec.ofNat 32 a) := by
        simp [better, h'.le, h'.not_gt, h'.ne]
      rw [hb]
      obtain ⟨m, hm, e, hall⟩ := ih a hal
      refine ⟨m, by simp [List.mem_cons.mp hm], e, fun n hn => ?_⟩
      rcases List.mem_cons.mp hn with rfl | hn
      · exact ⟨(h'.trans_le (hall a (by simp)).1).le, fun _ => h'.trans_le (hall a (by simp)).1⟩
      · exact hall _ hn

/-- Folding all places, in order, from the lowest value finds the highest value's first place. -/
theorem better_all {N : ℕ} (h0 : 0 < N) (hN : N ≤ 2 ^ 31) (V : Fin N → EReal) :
    ∃ m : Fin N, Peak V (V m) m
      ∧ ((List.finRange N).map fun n => (V n, BitVec.ofNat 32 n)).foldl better (⊥, 0#32) = (V m, BitVec.ofNat 32 m) := by
  obtain ⟨k, rfl⟩ : ∃ k, N = k + 1 := ⟨N - 1, by omega⟩
  have hp : (List.finRange (k + 1)).Pairwise (· < ·) := List.pairwise_lt_finRange _
  have hall : ∀ n : Fin (k + 1), n ∈ List.finRange (k + 1) := List.mem_finRange
  rw [List.finRange_succ] at hp hall ⊢
  rw [List.map_cons, List.foldl_cons]
  have hb : better (⊥, 0#32) (V 0, BitVec.ofNat 32 ((0 : Fin (k + 1)) : ℕ)) = (V 0, BitVec.ofNat 32 ((0 : Fin (k + 1)) : ℕ)) := by
    rcases eq_or_ne (V 0) ⊥ with h | h
    · simp [better, h]
    · simp [better, h.symm]
  rw [hb]
  obtain ⟨m, hm, e, h⟩ := better_rest hN V _ 0 hp
  exact ⟨m, ⟨fun n => (h n (hall n)).1, rfl, fun n hn => (h n (hall n)).2 hn⟩, e⟩

/-- The largest of a table of values: a bound that is reached. -/
theorem fold_largest {ι : Type*} [Fintype ι] (x : ι → EReal) (M : EReal) (hle : ∀ i, x i ≤ M) (hat : ∃ i, x i = M) :
    (Finset.univ : Finset ι).fold max ⊥ x = M := by
  refine le_antisymm ((Finset.fold_max_le M).mpr ⟨bot_le, fun i _ => hle i⟩) ?_
  obtain ⟨i, hi⟩ := hat
  exact (Finset.le_fold_max M).mpr (Or.inr ⟨i, Finset.mem_univ i, hi.ge⟩)

/-- The row of a flat place. -/
def rowOf (n : Fin 147456) : Fin 384 := ⟨n / 384, by omega⟩

/-- The column of a flat place. -/
def colOf (n : Fin 147456) : Fin 384 := ⟨n % 384, by omega⟩

/-- Flat places are pairs of a row and a column. -/
def places : Fin 147456 ≃ Fin 384 × Fin 384 where
  toFun n := (rowOf n, colOf n)
  invFun p := ⟨384 * p.1 + p.2, by omega⟩
  left_inv n := Fin.ext (by simp only [rowOf, colOf]; omega)
  right_inv p := Prod.ext (Fin.ext (by simp only [rowOf]; omega)) (Fin.ext (by simp only [colOf]; omega))

/-- The centre's coordinate `e` (column, then row) at the flat place `i`, when the most votes `M` are above 100. -/
def coordAt (M : EReal) (i : Fin 147456) (e : Fin 2) : BitVec 32 :=
  if Ideal.ofBits .f32 0x42C80000#32 < M then (if e = 0 then BitVec.ofNat 32 (i % 384) else BitVec.ofNat 32 (i / 384)) else 4294967295#32

/-- The signed remainder of a small number by 384. -/
theorem srem_small {i : ℕ} (h : i < 147456) : (BitVec.ofNat 32 i).srem 384#32 = BitVec.ofNat 32 (i % 384) := by
  rw [BitVec.srem_eq]
  have h1 : (BitVec.ofNat 32 i).msb = false := by
    rw [BitVec.msb_eq_false_iff_two_mul_lt, BitVec.toNat_ofNat]; omega
  have h2 : (384#32).msb = false := by decide
  rw [h1, h2]
  apply BitVec.eq_of_toNat_eq
  simp only [BitVec.umod_eq, BitVec.toNat_umod, BitVec.toNat_ofNat]
  rw [show i % 2 ^ 32 = i from Nat.mod_eq_of_lt (by omega), show 384 % 2 ^ 32 = 384 from rfl]
  omega

/-- The signed quotient of a small number by 384. -/
theorem sdiv_small {i : ℕ} (h : i < 147456) : (BitVec.ofNat 32 i).sdiv 384#32 = BitVec.ofNat 32 (i / 384) := by
  rw [BitVec.sdiv_eq]
  have h1 : (BitVec.ofNat 32 i).msb = false := by
    rw [BitVec.msb_eq_false_iff_two_mul_lt, BitVec.toNat_ofNat]; omega
  have h2 : (384#32).msb = false := by decide
  rw [h1, h2]
  apply BitVec.eq_of_toNat_eq
  simp only [BitVec.udiv_eq, BitVec.toNat_udiv, BitVec.toNat_ofNat]
  rw [show i % 2 ^ 32 = i from Nat.mod_eq_of_lt (by omega), show 384 % 2 ^ 32 = 384 from rfl]
  omega

/-- The remainder operation on a small number and 384, on any unit. -/
theorem remsi_small (u : ArithUnit) {i : ℕ} (h : i < 147456) : IntOp.remsi u (BitVec.ofNat 32 i) 384#32 = BitVec.ofNat 32 (i % 384) :=
  (if_neg (by unfold IntOp.SDivCorner; simp)).trans (srem_small h)

/-- The division operation on a small number and 384, on any unit. -/
theorem divsi_small (u : ArithUnit) {i : ℕ} (h : i < 147456) : IntOp.divsi u (BitVec.ofNat 32 i) 384#32 = BitVec.ofNat 32 (i / 384) :=
  (if_neg (by unfold IntOp.SDivCorner; simp)).trans (sdiv_small h)

end Cert.Spec
-- ==== Proof.Cell.lean ====
/- The cell a pixel votes for: its place moved by at most one, kept inside the picture and rounded down. -/
module

public import Idealize.ShloMosaic.Lib.Pointwise

@[expose] public section

noncomputable section

namespace Cert.Spec

open Idealize.ShloMosaic

/-- A place moved and kept inside the picture. -/
def kept (p d : EReal) : EReal := min ((383 : ℝ) : EReal) (max ((0 : ℝ) : EReal) (p + d))

/-- The number of the cell a pixel votes for along one axis: its place `p` moved by `r`, kept inside the picture, rounded down. -/
def cellOf (p : Fin 384) (r : ℝ) : ℕ := ⌊min 383 (max 0 ((p : ℝ) + r))⌋.toNat

/-- A cell is in the picture and next to the pixel. -/
theorem cellOf_near (p : Fin 384) (r : ℝ) (h : |r| ≤ 1) :
    cellOf p r < 384 ∧ cellOf p r ≤ p + 1 ∧ (p : ℕ) ≤ cellOf p r + 1 := by
  have hr := abs_le.mp h
  have hp : ((p : ℕ) : ℝ) ≤ 383 := by exact_mod_cast Nat.lt_succ_iff.mp p.isLt
  have hp0 : (0 : ℝ) ≤ ((p : ℕ) : ℝ) := Nat.cast_nonneg _
  unfold cellOf
  set q : ℝ := min 383 (max 0 ((p : ℝ) + r)) with hq
  have h0 : 0 ≤ q := le_min (by norm_num) (le_max_left _ _)
  have h3 : q ≤ 383 := min_le_left _ _
  have hu : q ≤ (p : ℝ) + 1 := (min_le_right _ _).trans (max_le (by linarith) (by linarith))
  have hl : (p : ℝ) - 1 ≤ q := le_min (by linarith) (le_max_of_le_right (by linarith))
  have f0 : 0 ≤ ⌊q⌋ := Int.floor_nonneg.mpr h0
  have f3 : ⌊q⌋ ≤ 383 := by
    have : (⌊q⌋ : ℝ) ≤ 383 := (Int.floor_le q).trans h3
    exact_mod_cast this
  have fu : ⌊q⌋ ≤ (p : ℤ) + 1 := by
    have : (⌊q⌋ : ℝ) ≤ (p : ℝ) + 1 := (Int.floor_le q).trans hu
    exact_mod_cast this
  have fl : (p : ℤ) - 1 ≤ ⌊q⌋ := Int.le_floor.mpr (by push_cast; exact hl)
  omega

/-- The word of a cell. -/
theorem fptosi_kept (p : Fin 384) (r : ℝ) : Ideal.fptosi 32 (kept (((p : ℕ) : ℝ) : EReal) (r : EReal)) = BitVec.ofNat 32 (cellOf p r) := by
  have hmax : ∀ a b : ℝ, max (a : EReal) (b : EReal) = ((max a b : ℝ) : EReal) := fun a b => (EReal.coe_strictMono.monotone.map_max).symm
  have hmin : ∀ a b : ℝ, min (a : EReal) (b : EReal) = ((min a b : ℝ) : EReal) := fun a b => (EReal.coe_strictMono.monotone.map_min).symm
  unfold kept Ideal.fptosi cellOf
  rw [← EReal.coe_add, hmax, hmin, Ideal.toIntClamped_coe]
  set q : ℝ := min 383 (max 0 ((p : ℝ) + r)) with hq
  have h0 : 0 ≤ q := le_min (by norm_num) (le_max_left _ _)
  have h3 : q ≤ 383 := min_le_left _ _
  have f0 : 0 ≤ ⌊q⌋ := Int.floor_nonneg.mpr h0
  have f3 : ⌊q⌋ ≤ 383 := by
    have : (⌊q⌋ : ℝ) ≤ 383 := (Int.floor_le q).trans h3
    exact_mod_cast this
  rw [if_pos h0]
  have hc : max (-((2 ^ (32 - 1) : ℕ) : ℤ)) (min (((2 ^ (32 - 1) : ℕ) : ℤ) - 1) ⌊q⌋) = (⌊q⌋.toNat : ℤ) := by
    norm_num
    omega
  rw [hc]
  exact BitVec.ofInt_natCast _ _

end Cert.Spec
-- ==== Proof.Hough.lean ====
/- The kernel's votes: for each class, nine shifted masks added up. -/
module

public import proofs.«01_k».proof.Proof.Gen.KernelIdeal.Frame.Region3
public import proofs.«01_k».proof.Proof.Largest
public import proofs.«01_k».proof.Proof.Cell

@[expose] public section

set_option maxRecDepth 16384

noncomputable section

namespace Cert.KernelIdeal.Val

open Idealize.ShloMosaic Idealize.ShloMosaic.TcCoe Idealize.SL.Sem
open Cert.KernelIdeal Cert.KernelIdeal.Gen Cert.Spec

/-- A picture of numbers. -/
abbrev Pic := FVec Ideal S384x384 .f32

/-- Rows moved up by one, the first to the end. -/
def rowsUp (t : Pic) : Pic :=
  concatenate S384x384 0 [⟨S383x384, extractStridedSlice S383x384 ![1, 0] t slices_S384x384_o1_0_S383x384⟩,
    ⟨S1x384, extractStridedSlice S1x384 ![0, 0] t slices_S384x384_o0_0_S1x384⟩] concatenates_S383x384_S1x384_S384x384_d0

/-- Rows moved down by one, the last to the front. -/
def rowsDown (t : Pic) : Pic :=
  concatenate S384x384 0 [⟨S1x384, extractStridedSlice S1x384 ![383, 0] t slices_S384x384_o383_0_S1x384⟩,
    ⟨S383x384, extractStridedSlice S383x384 ![0, 0] t slices_S384x384_o0_0_S383x384⟩] concatenates_S1x384_S383x384_S384x384_d0

/-- Columns moved left by one, the first to the end. -/
def colsLeft (t : Pic) : Pic :=
  concatenate S384x384 1 [⟨S384x383, extractStridedSlice S384x383 ![0, 1] t slices_S384x384_o0_1_S384x383⟩,
    ⟨S384x1, extractStridedSlice S384x1 ![0, 0] t slices_S384x384_o0_0_S384x1⟩] concatenates_S384x383_S384x1_S384x384_d1

/-- Columns moved right by one, the last to the front. -/
def colsRight (t : Pic) : Pic :=
  concatenate S384x384 1 [⟨S384x1, extractStridedSlice S384x1 ![0, 383] t slices_S384x384_o0_383_S384x1⟩,
    ⟨S384x383, extractStridedSlice S384x383 ![0, 0] t slices_S384x384_o0_0_S384x383⟩] concatenates_S384x1_S384x383_S384x384_d1

/-- One where the label is `k` and the two steps are `J` and `K`, zero elsewhere. -/
def marked (v1 rx ry : IVec S384x384 32) (k J K : BitVec 32) : Pic :=
  select (andi (andi (cmpi .eq v1 (broadcast S384x384 k)) (cmpi .eq ry (broadcast S384x384 J))) (cmpi .eq rx (broadcast S384x384 K)))
    (broadcast S384x384 (Scalar.ofBits (F := Ideal) .f32 0x3F800000#32)) (broadcast S384x384 (Scalar.ofBits (F := Ideal) .f32 0x00000000#32))

/-- The votes of class `k`: the nine masks, each moved by its step. -/
def hough (v1 rx ry : IVec S384x384 32) (k : BitVec 32) : Pic :=
  addf (addf (addf (addf (addf (addf (addf (addf (addf (broadcast S384x384 (Scalar.ofBits (F := Ideal) .f32 0x00000000#32))
    (colsLeft (rowsUp (marked v1 rx ry k 4294967295#32 4294967295#32))))
    (rowsUp (marked v1 rx ry k 4294967295#32 0#32)))
    (colsRight (rowsUp (marked v1 rx ry k 4294967295#32 1#32))))
    (colsLeft (marked v1 rx ry k 0#32 4294967295#32)))
    (marked v1 rx ry k 0#32 0#32))
    (colsRight (marked v1 rx ry k 0#32 1#32)))
    (colsLeft (rowsDown (marked v1 rx ry k 1#32 4294967295#32))))
    (rowsDown (marked v1 rx ry k 1#32 0#32)))
    (colsRight (rowsDown (marked v1 rx ry k 1#32 1#32)))

/-- A place of the moved picture comes from the next row, wrapping around. -/
theorem rowsUp_at (t : Pic) (y x : Fin 384) : rowsUp t (ix2 y x) = t (ix2 (back y 0) x) := by
  unfold rowsUp back
  pointwise
  split <;> exact congrArg (fun z => t (ix2 z x)) (Fin.ext (by dsimp only; omega))

/-- A place of the moved picture comes from the row before, wrapping around. -/
theorem rowsDown_at (t : Pic) (y x : Fin 384) : rowsDown t (ix2 y x) = t (ix2 (back y 2) x) := by
  unfold rowsDown back
  pointwise
  split <;> exact congrArg (fun z => t (ix2 z x)) (Fin.ext (by dsimp only; omega))

/-- A place of the moved picture comes from the next column, wrapping around. -/
theorem colsLeft_at (t : Pic) (y x : Fin 384) : colsLeft t (ix2 y x) = t (ix2 y (back x 0)) := by
  unfold colsLeft back
  pointwise
  split <;> exact congrArg (fun z => t (ix2 y z)) (Fin.ext (by dsimp only; omega))

/-- A place of the moved picture comes from the column before, wrapping around. -/
theorem colsRight_at (t : Pic) (y x : Fin 384) : colsRight t (ix2 y x) = t (ix2 y (back x 2)) := by
  unfold colsRight back
  pointwise
  split <;> exact congrArg (fun z => t (ix2 y z)) (Fin.ext (by dsimp only; omega))

/-- The step of a shift as a word: minus one, zero, one. -/
def stepWord (j : Fin 3) : BitVec 32 := ![4294967295#32, 0#32, 1#32] j

/-- A cell number less a place is a step exactly when the cell is that step ahead. -/
theorem step_iff (r y : ℕ) (hr : r < 384) (hy : y < 384) (j : Fin 3) :
    BitVec.ofNat 32 r - BitVec.ofNat 32 y = stepWord j ↔ r + 1 = y + j := by
  rw [← BitVec.toNat_inj, BitVec.toNat_sub, BitVec.toNat_ofNat, BitVec.toNat_ofNat]
  fin_cases j
  · show _ = (4294967295#32).toNat ↔ r + 1 = y + 0
    rw [show (4294967295#32).toNat = 4294967295 from rfl]; omega
  · show _ = (0#32).toNat ↔ r + 1 = y + 1
    rw [show (0#32).toNat = 0 from rfl]; omega
  · show _ = (1#32).toNat ↔ r + 1 = y + 2
    rw [show (1#32).toNat = 1 from rfl]; omega

/-- The word of one is one. -/
theorem one_bits : Ideal.ofBits .f32 0x3F800000#32 = 1 := by
  simp [Ideal.ofBits, Ideal.ieee, -EReal.coe_mul]; norm_num

/-- The word of zero is zero. -/
theorem zero_bits : Ideal.ofBits .f32 0x00000000#32 = 0 := by
  simp [Ideal.ofBits, Ideal.ieee]

/-- A choice by three conditions at once. -/
theorem three_bits (a b c : Bool) : Scalar.select (IntOp.andi (IntOp.andi (BitVec.ofBool a) (BitVec.ofBool b)) (BitVec.ofBool c)) (1 : EReal) 0
    = if ((a = true ∧ b = true) ∧ c = true) then 1 else 0 := by
  unfold Scalar.select IntOp.andi
  cases a <;> cases b <;> cases c <;> first | exact if_pos (by decide) | exact if_neg (by decide) | rfl

section
variable (v1 rx ry : IVec S384x384 32) (k : BitVec 32) (R C : Fin 384 → Fin 384 → ℕ)
  (hR : ∀ y x, R y x < 384) (hC : ∀ y x, C y x < 384)
  (hx : ∀ y x : Fin 384, rx (ix2 y x) = BitVec.ofNat 32 (C y x) - BitVec.ofNat 32 x)
  (hy : ∀ y x : Fin 384, ry (ix2 y x) = BitVec.ofNat 32 (R y x) - BitVec.ofNat 32 y)

include hR hC hx hy

/-- A mask is one where the pixel is of the class and votes the two steps ahead. -/
theorem marked_at (j l : Fin 3) (y x : Fin 384) : (marked v1 rx ry k (stepWord j) (stepWord l) (ix2 y x) : EReal)
    = vote ((v1 (ix2 y x) = k ∧ R y x + 1 = y + j) ∧ C y x + 1 = x + l) := by
  show Scalar.select (IntOp.andi (IntOp.andi (IntOp.cmpi .eq (v1 (ix2 y x)) k) (IntOp.cmpi .eq (ry (ix2 y x)) (stepWord j)))
    (IntOp.cmpi .eq (rx (ix2 y x)) (stepWord l))) (Ideal.ofBits .f32 0x3F800000#32) (Ideal.ofBits .f32 0x00000000#32) = _
  rw [hx, hy, one_bits, zero_bits]
  have h1 := step_iff (R y x) y (hR y x) y.isLt j
  have h2 := step_iff (C y x) x (hC y x) x.isLt l
  unfold vote
  simp only [← h1, ← h2]
  refine (three_bits (v1 (ix2 y x) == k) (BitVec.ofNat 32 (R y x) - BitVec.ofNat 32 y == stepWord j)
    (BitVec.ofNat 32 (C y x) - BitVec.ofNat 32 x == stepWord l)).trans ?_
  simp only [beq_iff_eq]

/-- The kernel's votes at a cell are the votes gathered from its nine neighbours. -/
theorem hough_at (y x : Fin 384) : (hough v1 rx ry k (ix2 y x) : EReal)
    = ∑ j : Fin 3, ∑ l : Fin 3, gathered (fun y x => v1 (ix2 y x) = k) R C y x j l := by
  have e : ∀ j l : Fin 3, gathered (fun y x => v1 (ix2 y x) = k) R C y x j l
      = (marked v1 rx ry k (stepWord j) (stepWord l) (ix2 (back y j) (back x l)) : EReal) := fun j l =>
    (marked_at v1 rx ry k R C hR hC hx hy j l _ _).symm
  have hb : ∀ y : Fin 384, back y 1 = y := fun y => Fin.ext (by show (y.val + 385 - 1) % 384 = y; omega)
  simp only [Fin.sum_univ_three, e, hb, ← add_assoc]
  show (Ideal.ofBits .f32 0x00000000#32 + (colsLeft (rowsUp _) (ix2 y x) : EReal) + rowsUp _ (ix2 y x) + colsRight (rowsUp _) (ix2 y x)
    + colsLeft _ (ix2 y x) + _ + colsRight _ (ix2 y x) + colsLeft (rowsDown _) (ix2 y x) + rowsDown _ (ix2 y x) + colsRight (rowsDown _) (ix2 y x) : EReal) = _
  rw [zero_bits, zero_add]
  simp only [colsLeft_at, colsRight_at, rowsUp_at, rowsDown_at]
  rfl

end

/-- The first class's votes are what the kernel's steps compute. -/
theorem hough_one (v0 : IVec S1x384x384 32) (v2 v4 : FVec Ideal S1x384x384 .f32) :
    k3_pay12 (F := Ideal) (k3_pay1 (F := Ideal) v0) (k3_pay2 (F := Ideal) v2) (k3_pay3 (F := Ideal) v4)
      (k3_pay10 (F := Ideal) (k3_pay1 (F := Ideal) v0) (k3_pay2 (F := Ideal) v2) (k3_pay3 (F := Ideal) v4)
        (k3_pay7 (F := Ideal) (k3_pay1 (F := Ideal) v0) (k3_pay2 (F := Ideal) v2) (k3_pay3 (F := Ideal) v4) (k3_pay5 (F := Ideal))
          (k3_pay6 (F := Ideal) v0 v2 v4))
        (k3_pay8 (k3_pay1 (F := Ideal) v0) (k3_pay3 (F := Ideal) v4)) (k3_pay9 (k3_pay2 (F := Ideal) v2)))
      (k3_pay11 (k3_pay1 (F := Ideal) v0) (k3_pay2 (F := Ideal) v2) (k3_pay3 (F := Ideal) v4))
      (Scalar.ofBits .f32 0x3F800000#32) (Scalar.ofBits .f32 0x00000000#32)
    = hough (k3_pay1 (F := Ideal) v0) (k3_pay2 (F := Ideal) v2) (k3_pay3 (F := Ideal) v4) 1#32 := rfl

/-- The second class's votes are what the kernel's steps compute. -/
theorem hough_two (v1 rx ry : IVec S384x384 32) :
    k3_pay22 (F := Ideal) rx (k3_pay20 (F := Ideal) v1 rx ry (k3_pay18 (F := Ideal) v1 rx ry (k3_pay16 (F := Ideal) v1 rx ry) (k3_pay17 v1 rx ry))
      (k3_pay19 v1 rx ry)) (k3_pay21 v1 ry) 1#32 = hough v1 rx ry 2#32 := rfl

end Cert.KernelIdeal.Val
-- ==== Proof.KernPeak.lean ====
/- The kernel's search for the first cell with the most votes, and the centre it stores. -/
module

public import proofs.«01_k».proof.Proof.Hough
public import Idealize.ShloMosaic.Lib.SortNet.Extract

@[expose] public section

set_option maxRecDepth 16384

noncomputable section

namespace Cert.KernelIdeal.Val

open Idealize.ShloMosaic Idealize.ShloMosaic.TcCoe Idealize.SL.Sem
open Cert.KernelIdeal Cert.KernelIdeal.Gen Cert.Spec

/-- The most votes of a table. -/
def mostOf (H : Pic) : EReal :=
  extractAt ![0, 0, 0] (shapeCast S1x1x1 (multiReduction .maximumf [1, 2] S1 (shapeCast S1x384x384 H shapeCasts_S384x384_S1x384x384)
    0xFF800000#32 reduces_S1x384x384_S1 (.inl rfl) rfl) shapeCasts_S1_S1x1x1) inpos_S1x1x1_p0_0_0

/-- The flat place of the first cell with the most votes, as the kernel finds it. -/
def firstOf (H : Pic) : BitVec 32 :=
  extractAt ![0, 0, 0] (k3_pay15 k3_pay4 (cmpf .oeq H (broadcast S384x384 (mostOf H)))) inpos_S1x1x1_p0_0_0

/-- The smallest of a table of small numbers, as words: a bound that is reached. -/
theorem fold_smallest {ι : Type*} [Fintype ι] (f : ι → BitVec 32) (g : ι → ℕ) (hf : ∀ i, f i = BitVec.ofNat 32 (g i)) (m : ℕ)
    (hm : m < 2 ^ 31) (hlt : ∀ i, g i < 2 ^ 31) (hle : ∀ i, m ≤ g i) (hat : ∃ i, g i = m) :
    (Finset.univ : Finset ι).fold IKind.minsi.op 2147483647#32 f = BitVec.ofNat 32 m := by
  have hi : ∀ a : ℕ, a < 2 ^ 31 → (BitVec.ofNat 32 a).toInt = (a : ℤ) := fun a ha => by
    rw [BitVec.toInt_eq_toNat_of_lt (by rw [BitVec.toNat_ofNat]; omega), BitVec.toNat_ofNat]; omega
  apply BitVec.eq_of_toInt_eq
  have hom := Finset.fold_hom (op := IKind.minsi.op) (op' := min) (s := (Finset.univ : Finset ι)) (b := 2147483647#32) (f := f)
    (m := BitVec.toInt) fun a b => SortNet.toInt_minsi a b
  rw [← hom, hi m hm]
  refine le_antisymm ?_ ((Finset.le_fold_min _).mpr ⟨?_, fun i _ => ?_⟩)
  · obtain ⟨i, hi'⟩ := hat
    exact (Finset.fold_min_le _).mpr (Or.inr ⟨i, Finset.mem_univ i, by rw [hf, hi _ (hlt i), hi']⟩)
  · rw [show (2147483647#32).toInt = 2147483647 from by decide]; omega
  · rw [hf, hi _ (hlt i)]; exact_mod_cast hle i

/-- The one element of a vector of length one, read through a cube of side one. -/
theorem only_one {α : Type} (t : S1.Idx → α) : extractAt ![0, 0, 0] (shapeCast S1x1x1 t shapeCasts_S1_S1x1x1) inpos_S1x1x1_p0_0_0 = t (ix1 0) :=
  congrArg t ((eq_ix1 _).trans (congrArg ix1 (Subsingleton.elim (α := Fin 1) _ _)))

/-- A place's flat number where the votes equal `M`, the number of places elsewhere. -/
theorem chosen_at (H : Pic) (M : EReal) (y x : Fin 384) :
    select (cmpf (F := Ideal) .oeq H (broadcast S384x384 M)) k3_pay4 (broadcast S384x384 147456#32) (ix2 y x)
      = if (H (ix2 y x) : EReal) = M then k3_pay4 (ix2 y x) else 147456#32 := by
  pointwise

/-- The kernel's most votes and first place are the table's. -/
theorem peak_of (H : Pic) : ∃ m : Fin 147456, Peak (fun n => (H (ix2 (rowOf n) (colOf n)) : EReal)) (mostOf H) m
    ∧ firstOf H = BitVec.ofNat 32 m := by
  obtain ⟨m, hm, -⟩ := better_all (N := 147456) (by decide) (by decide) fun n => (H (ix2 (rowOf n) (colOf n)) : EReal)
  have hall : ∀ i : S1x384x384.Idx, ∃ n : Fin 147456, i = ix3 0 (rowOf n) (colOf n) := fun i => by
    refine ⟨places.symm (i 1, i 2), ?_⟩
    have := places.apply_symm_apply (i 1, i 2)
    have h1 : rowOf (places.symm (i 1, i 2)) = i 1 := congrArg Prod.fst this
    have h2 : colOf (places.symm (i 1, i 2)) = i 2 := congrArg Prod.snd this
    rw [h1, h2]
    exact (eq_ix3 i).trans (congrArg (fun z => ix3 z (i 1) (i 2)) (Subsingleton.elim (α := Fin 1) _ _))
  have hcast : ∀ {α : Type} (t : S384x384.Idx → α) (y x : Fin 384), shapeCast S1x384x384 t shapeCasts_S384x384_S1x384x384 (ix3 0 y x) = t (ix2 y x) := by
    intro α t y x
    pointwise
  have hdrop : ∀ (j : S1.Idx), (Finset.univ.filter fun i => reduces_S1x384x384_S1.drop i = j) = Finset.univ := fun j =>
    Finset.filter_true_of_mem fun i _ => funext fun b => Fin.ext (by
      have h1 := (reduces_S1x384x384_S1.drop i b).isLt
      have h2 := (j b).isLt
      have h3 : S1.size b = 1 := by fin_cases b; rfl
      omega)
  have hmost : mostOf H = H (ix2 (rowOf m) (colOf m)) := by
    unfold mostOf
    rw [only_one]
    refine (multiReduction_maximumf_eq_fold _ _ _ _ _ _).trans ?_
    rw [hdrop]
    have hb : (FloatOps.ofBits (F := Ideal) .f32 0xFF800000#32 : EReal) = ⊥ := by
      show Ideal.ofBits .f32 0xFF800000#32 = ⊥
      simp [Ideal.ofBits, Ideal.ieee]
    rw [hb]
    refine fold_largest (ι := S1x384x384.Idx) (shapeCast S1x384x384 H shapeCasts_S384x384_S1x384x384) (H (ix2 (rowOf m) (colOf m))) (fun i => ?_) ⟨ix3 0 (rowOf m) (colOf m), hcast H _ _⟩
    obtain ⟨n, rfl⟩ := hall i
    rw [hcast]
    exact hm.top n
  refine ⟨m, by rw [hmost]; exact hm, ?_⟩
  have hflat : ∀ n : Fin 147456, k3_pay4 (ix2 (rowOf n) (colOf n)) = BitVec.ofNat 32 n := fun n => by
    have : k3_pay4 (ix2 (rowOf n) (colOf n)) = IntOp.addi (IntOp.muli (BitVec.ofNat 32 (rowOf n)) 384#32) (BitVec.ofNat 32 (colOf n)) := by
      pointwise [k3_pay4]
    rw [this]
    unfold IntOp.addi IntOp.muli
    rw [← BitVec.ofNat_mul, ← BitVec.ofNat_add]
    refine congrArg _ ?_
    show n.val / 384 * 384 + n.val % 384 = n
    omega
  unfold firstOf k3_pay15
  rw [only_one]
  refine (multiReductionI_eq_fold _ _ _ _ _ _).trans ?_
  rw [hdrop]
  refine fold_smallest (ι := S1x384x384.Idx) (shapeCast S1x384x384 (select (cmpf (F := Ideal) .oeq H (broadcast S384x384 (mostOf H))) k3_pay4 (broadcast S384x384 147456#32)) shapeCasts_S384x384_S1x384x384) (fun i => if (H (ix2 (i 1) (i 2)) : EReal) = mostOf H then 384 * (i 1 : Fin 384).val + (i 2 : Fin 384).val else 147456)
    (fun i => ?_) m (by omega) (fun i => ?_) (fun i => ?_) ⟨ix3 0 (rowOf m) (colOf m), ?_⟩
  · obtain ⟨n, rfl⟩ := hall i
    rw [hcast]
    refine (chosen_at H _ (rowOf n) (colOf n)).trans ?_
    rw [hflat]
    show _ = BitVec.ofNat 32 (if (H (ix2 (rowOf n) (colOf n)) : EReal) = mostOf H then 384 * (n.val / 384) + n.val % 384 else 147456)
    split
    · rw [show 384 * (n.val / 384) + n.val % 384 = n.val by omega]
    · rfl
  · obtain ⟨n, rfl⟩ := hall i
    dsimp only
    split
    · show 384 * (n.val / 384) + n.val % 384 < _; omega
    · omega
  · obtain ⟨n, rfl⟩ := hall i
    show m.val ≤ if (H (ix2 (rowOf n) (colOf n)) : EReal) = mostOf H then 384 * (n.val / 384) + n.val % 384 else 147456
    split
    · rename_i h
      have : ¬ n < m := fun hlt => (hm.before n hlt).ne (h.trans hmost)
      have h' : m.val ≤ n.val := not_lt.mp this
      omega
    · omega
  · show (if (H (ix2 (rowOf m) (colOf m)) : EReal) = mostOf H then 384 * (m.val / 384) + m.val % 384 else 147456) = m.val
    rw [if_pos hmost.symm]
    omega

end Cert.KernelIdeal.Val
-- ==== Proof.Region3Val.lean ====
/- The centres: the array of the fourth launch when its grid has run. -/
module

public import proofs.«01_k».proof.Proof.KernPeak
public import Idealize.ShloMosaic.Lib.Pipeline.ValueKit

@[expose] public section

set_option maxRecDepth 16384

noncomputable section

namespace Cert.KernelIdeal.Val

open Idealize.ShloMosaic Idealize.ShloMosaic.TcCoe Idealize.SL.Sem
open Cert.KernelIdeal Cert.KernelIdeal.Gen Cert.Spec
open Idealize.ShloMosaic.Pipeline (Dat Cfg Window)

/-- The kernel's divisor, guarded against zero. -/
def widthWord : BitVec 32 := Scalar.select (Scalar.cmpi .eq 384#32 0#32) 1#32 384#32

/-- The column the kernel stores for most votes `M` at the flat place `v`. -/
def storedCol (M : EReal) (v : BitVec 32) : BitVec 32 :=
  Scalar.select (Scalar.cmpf (F := Ideal) .ogt (φ := .f32) M (Scalar.ofBits .f32 0x42C80000#32))
    (Scalar.select (Scalar.andi (Scalar.xori (Scalar.cmpi .slt (Scalar.remsi v widthWord) 0#32) (Scalar.cmpi .slt widthWord 0#32))
        (Scalar.cmpi .ne (Scalar.remsi v widthWord) 0#32))
      (Scalar.addi (Scalar.remsi v widthWord) widthWord) (Scalar.remsi v widthWord)) 4294967295#32

/-- The sign of a word, as the kernel computes it. -/
def signWord (v : BitVec 32) : BitVec 32 := Scalar.subi (Scalar.extui (Scalar.cmpi .sgt v 0#32)) (Scalar.extui (Scalar.cmpi .slt v 0#32))

/-- The row the kernel stores for most votes `M` at the flat place `v`. -/
def storedRow (M : EReal) (v : BitVec 32) : BitVec 32 :=
  Scalar.select (Scalar.cmpf (F := Ideal) .ogt (φ := .f32) M (Scalar.ofBits .f32 0x42C80000#32))
    (Scalar.select (Scalar.andi (Scalar.cmpi .ne (signWord v) (signWord 384#32)) (Scalar.cmpi .ne (Scalar.remsi v 384#32) 0#32))
      (Scalar.subi (Scalar.divsi v 384#32) 1#32) (Scalar.divsi v 384#32)) 4294967295#32

/-- Whether the most votes are above 100, as the kernel compares them. -/
theorem above_word (M : EReal) (a b : BitVec 32) :
    Scalar.select (Scalar.cmpf (F := Ideal) .ogt (φ := .f32) M (Scalar.ofBits .f32 0x42C80000#32)) a b
      = if Ideal.ofBits .f32 0x42C80000#32 < M then a else b := by
  show Scalar.select (BitVec.ofBool (decide (Ideal.ofBits .f32 0x42C80000#32 < M))) a b = _
  by_cases h : Ideal.ofBits .f32 0x42C80000#32 < M <;> simp [h, Scalar.select]

/-- A small word is not negative. -/
theorem slt_zero {i : ℕ} (h : i < 147456) : (BitVec.ofNat 32 i).slt 0#32 = false := by
  rw [Bool.eq_false_iff, ne_eq, show (0#32) = BitVec.ofNat 32 0 from rfl, slt_small (by omega) (by omega)]; omega

/-- The stored column is the place's column. -/
theorem storedCol_eq (M : EReal) (m : Fin 147456) : storedCol M (BitVec.ofNat 32 m) = coordAt M m 0 := by
  unfold storedCol coordAt
  rw [above_word, show widthWord = 384#32 from by decide]
  refine if_congr Iff.rfl ?_ rfl
  rw [if_pos rfl, show Scalar.remsi (BitVec.ofNat 32 m) 384#32 = BitVec.ofNat 32 (m % 384) from remsi_small _ m.isLt]
  show Scalar.select (IntOp.andi (IntOp.xori (IntOp.cmpi .slt _ 0#32) (IntOp.cmpi .slt 384#32 0#32)) (IntOp.cmpi .ne _ 0#32)) _ _ = _
  simp [IntOp.cmpi, IntOp.andi, IntOp.xori, Scalar.select, slt_zero (i := m % 384) (by omega)]

/-- The stored row is the place's row. -/
theorem storedRow_eq (M : EReal) (m : Fin 147456) : storedRow M (BitVec.ofNat 32 m) = coordAt M m 1 := by
  unfold storedRow coordAt
  rw [above_word]
  refine if_congr Iff.rfl ?_ rfl
  rw [if_neg (by decide), show Scalar.remsi (BitVec.ofNat 32 m) 384#32 = BitVec.ofNat 32 (m % 384) from remsi_small _ m.isLt,
    show Scalar.divsi (BitVec.ofNat 32 m) 384#32 = BitVec.ofNat 32 (m / 384) from divsi_small _ m.isLt, show signWord 384#32 = 1#32 from by decide]
  by_cases h : (m : ℕ) = 0
  · rw [h]
    have : Scalar.andi (Scalar.cmpi .ne (signWord (BitVec.ofNat 32 0)) 1#32) (Scalar.cmpi .ne (BitVec.ofNat 32 (0 % 384)) 0#32) = 0#1 := by decide
    rw [this]; rfl
  · have hs : signWord (BitVec.ofNat 32 m) = 1#32 := by
      have h1 : (0#32).slt (BitVec.ofNat 32 m) = true := (slt_small (a := 0) (by omega) (by omega)).mpr (by omega)
      have h2 := slt_zero m.isLt
      show IntOp.subi (Scalar.extui (BitVec.ofBool ((0#32).slt (BitVec.ofNat 32 m)))) (Scalar.extui (BitVec.ofBool ((BitVec.ofNat 32 m).slt 0#32))) = _
      rw [h1, h2]; decide
    rw [hs]
    have : Scalar.cmpi .ne 1#32 1#32 = 0#1 := by decide
    rw [this]
    have : Scalar.andi 0#1 (Scalar.cmpi .ne (BitVec.ofNat 32 (m % 384)) 0#32) = 0#1 := BitVec.zero_and
    rw [this]; rfl

variable (V : (c : Dev nD) → (b : Ref sig .tc) → Buf (Elt Ideal) ((c : Thread nD τ).loc b))

/-- Where each window's block lies at a grid point: image `t`. -/
theorem idx3 : ∀ t : Fin cfg3.N, win3_0.index t = ![t.val, 0, 0] ∧ win3_1.index t = ![t.val, 0, 0]
   ∧ win3_2.index t = ![t.val, 0, 0] ∧ win3_3.index t = ![t.val, 0, 0] := (by decide +kernel : ∀ t : Fin grid3.N, _)

/-- The votes of class `k` at one grid point. -/
abbrev votes3 (c : Dev nD) (t : Fin cfg3.N) (k : BitVec 32) : Pic :=
  hough (k3_pay1 (F := Ideal) (iblk3 V c 0 t)) (k3_pay2 (F := Ideal) (iblk3 V c 1 t)) (k3_pay3 (F := Ideal) (iblk3 V c 2 t)) k

/-- The first class's most votes. -/
theorem most_one (v0 : IVec S1x384x384 32) (v2 v4 : FVec Ideal S1x384x384 .f32) :
    k3_pay13 (F := Ideal) (k3_pay1 (F := Ideal) v0) (k3_pay2 (F := Ideal) v2) (k3_pay3 (F := Ideal) v4)
      (k3_pay10 (F := Ideal) (k3_pay1 (F := Ideal) v0) (k3_pay2 (F := Ideal) v2) (k3_pay3 (F := Ideal) v4)
        (k3_pay7 (F := Ideal) (k3_pay1 (F := Ideal) v0) (k3_pay2 (F := Ideal) v2) (k3_pay3 (F := Ideal) v4) (k3_pay5 (F := Ideal))
          (k3_pay6 (F := Ideal) v0 v2 v4))
        (k3_pay8 (k3_pay1 (F := Ideal) v0) (k3_pay3 (F := Ideal) v4)) (k3_pay9 (k3_pay2 (F := Ideal) v2)))
      (k3_pay11 (k3_pay1 (F := Ideal) v0) (k3_pay2 (F := Ideal) v2) (k3_pay3 (F := Ideal) v4))
      (FloatOps.ofBits .f32 1065353216#32) (FloatOps.ofBits .f32 0#32)
    = mostOf (hough (k3_pay1 (F := Ideal) v0) (k3_pay2 (F := Ideal) v2) (k3_pay3 (F := Ideal) v4) 1#32) :=
  congrArg mostOf (hough_one v0 v2 v4)

/-- The first class's first place with the most votes. -/
theorem first_one (v0 : IVec S1x384x384 32) (v2 v4 : FVec Ideal S1x384x384 .f32) :
    extractAt ![0, 0, 0] (k3_pay15 k3_pay4 (k3_pay14 (F := Ideal) (k3_pay1 (F := Ideal) v0) (k3_pay2 (F := Ideal) v2) (k3_pay3 (F := Ideal) v4)
      (k3_pay10 (F := Ideal) (k3_pay1 (F := Ideal) v0) (k3_pay2 (F := Ideal) v2) (k3_pay3 (F := Ideal) v4)
        (k3_pay7 (F := Ideal) (k3_pay1 (F := Ideal) v0) (k3_pay2 (F := Ideal) v2) (k3_pay3 (F := Ideal) v4) (k3_pay5 (F := Ideal))
          (k3_pay6 (F := Ideal) v0 v2 v4))
        (k3_pay8 (k3_pay1 (F := Ideal) v0) (k3_pay3 (F := Ideal) v4)) (k3_pay9 (k3_pay2 (F := Ideal) v2)))
      (k3_pay11 (k3_pay1 (F := Ideal) v0) (k3_pay2 (F := Ideal) v2) (k3_pay3 (F := Ideal) v4))
      (FloatOps.ofBits .f32 1065353216#32) (FloatOps.ofBits .f32 0#32))) inpos_S1x1x1_p0_0_0
    = firstOf (hough (k3_pay1 (F := Ideal) v0) (k3_pay2 (F := Ideal) v2) (k3_pay3 (F := Ideal) v4) 1#32) :=
  congrArg firstOf (hough_one v0 v2 v4)

/-- The second class's most votes. -/
theorem most_two (v1 rx ry : IVec S384x384 32) :
    k3_pay23 (F := Ideal) rx (k3_pay20 (F := Ideal) v1 rx ry (k3_pay18 (F := Ideal) v1 rx ry (k3_pay16 (F := Ideal) v1 rx ry) (k3_pay17 v1 rx ry))
      (k3_pay19 v1 rx ry)) (k3_pay21 v1 ry) 1#32 = mostOf (hough v1 rx ry 2#32) :=
  congrArg mostOf (hough_two v1 rx ry)

/-- The second class's first place with the most votes. -/
theorem first_two (v1 rx ry : IVec S384x384 32) :
    extractAt ![0, 0, 0] (k3_pay24 (F := Ideal) rx k3_pay4 (k3_pay20 (F := Ideal) v1 rx ry (k3_pay18 (F := Ideal) v1 rx ry
      (k3_pay16 (F := Ideal) v1 rx ry) (k3_pay17 v1 rx ry)) (k3_pay19 v1 rx ry)) (k3_pay21 v1 ry) 1#32) inpos_S1x1x1_p0_0_0
      = firstOf (hough v1 rx ry 2#32) :=
  congrArg firstOf (hough_two v1 rx ry)

/-- Four single stores fill the block of two classes and two coordinates. -/
theorem four_stores (g : Fin 2 → Fin 2 → BitVec 32) (k e : Fin 2) : View.canon (Val := Elt Ideal) (s := S1x2x2) (e := .i32)
      [⟨Rect.unit ![0, 1, 1] ![1, 1, 1] inb_S1x2x2_S1x1x1_0_1_1, fun _ => g 1 1⟩,
       ⟨Rect.unit ![0, 1, 0] ![1, 1, 1] inb_S1x2x2_S1x1x1_0_1_0, fun _ => g 1 0⟩,
       ⟨Rect.unit ![0, 0, 1] ![1, 1, 1] inb_S1x2x2_S1x1x1_0_0_1, fun _ => g 0 1⟩,
       ⟨Rect.unit ![0, 0, 0] ![1, 1, 1] inb_S1x2x2_S1x1x1_0_0_0, fun _ => g 0 0⟩] (ix3 0 k e) = g k e := by
  refine View.canon_apply_of_pieces (Val := Elt Ideal) (S := S1x2x2) (e := .i32) (fun j : S1x2x2.Idx => g (j 1) (j 2)) _ (fun p hp x => ?_) _
    (View.cover_of_tiledL (Val := Elt Ideal) (s := S1x2x2) (e := .i32) _ S1x1x1.size (by sl_kernel_rfl) _)
  simp only [List.mem_cons, List.not_mem_nil, or_false] at hp
  rcases hp with rfl | rfl | rfl | rfl
  all_goals
    have h1 : (x 1).val = 0 := Nat.lt_one_iff.mp (x 1).isLt
    have h2 : (x 2).val = 0 := Nat.lt_one_iff.mp (x 2).isLt
    refine congrArg₂ g (Fin.ext ?_) (Fin.ext ?_)
  all_goals simp [h1, h2]

/-- One grid point's four stored words. -/
def stored3 (c : Dev nD) (t : Fin cfg3.N) (k e : Fin 2) : BitVec 32 :=
  if e = 0 then storedCol (mostOf (votes3 V c t (if k = 0 then 1#32 else 2#32))) (firstOf (votes3 V c t (if k = 0 then 1#32 else 2#32)))
  else storedRow (mostOf (votes3 V c t (if k = 0 then 1#32 else 2#32))) (firstOf (votes3 V c t (if k = 0 then 1#32 else 2#32)))

/-- What the body leaves at one grid point. -/
theorem outs3 (c : Dev nD) (t : Fin cfg3.N) (k e : Fin 2) : outsAt3 V c t (ix3 0 k e) = stored3 V c t k e := by
  refine Eq.trans ?_ (four_stores (stored3 V c t) k e)
  unfold outsAt3
  frame_out
  simp only [most_one, first_one, most_two, first_two]
  have s11 : stored3 V c t 1 1 = storedRow (mostOf (votes3 V c t 2#32)) (firstOf (votes3 V c t 2#32)) := by
    unfold stored3; rw [if_neg (by decide), if_neg (by decide)]
  have s10 : stored3 V c t 1 0 = storedCol (mostOf (votes3 V c t 2#32)) (firstOf (votes3 V c t 2#32)) := by
    unfold stored3; rw [if_pos rfl, if_neg (by decide)]
  have s01 : stored3 V c t 0 1 = storedRow (mostOf (votes3 V c t 1#32)) (firstOf (votes3 V c t 1#32)) := by
    unfold stored3; rw [if_neg (by decide), if_pos rfl]
  have s00 : stored3 V c t 0 0 = storedCol (mostOf (votes3 V c t 1#32)) (firstOf (votes3 V c t 1#32)) := by
    unfold stored3; rw [if_pos rfl, if_pos rfl]
  rw [s11, s10, s01, s00]
  unfold votes3
  generalize hough _ _ _ 1#32 = h1
  generalize hough _ _ _ 2#32 = h2
  generalize mostOf h1 = M1
  generalize mostOf h2 = M2
  generalize firstOf h1 = v1
  generalize firstOf h2 = v2
  rfl

end Cert.KernelIdeal.Val
-- ==== Proof.ConvPay.lean ====
/- The kernel's convolution block at one index: the slab of rows it assembles read back, its matrix product as sums over the
   channels, its shifted and masked columns — each at variable arguments. -/
module

public import proofs.«01_k».proof.Proof.Spec
public import proofs.«01_k».proof.Proof.Gen.KernelIdeal.Skeleton
public import Idealize.ShloMosaic.Lib.Pointwise
public import Idealize.ShloMosaic.Lib.WordCmp
public import Idealize.ShloMosaic.Lib.Pipeline.ValueKit

@[expose] public section

set_option maxRecDepth 16384

noncomputable section

namespace Cert.KernelIdeal.Val

open Idealize.ShloMosaic Idealize.ShloMosaic.TcCoe Idealize.SL.Sem
open Cert.KernelIdeal Cert.KernelIdeal.Gen Cert.Spec

/-- Row `o + k` of the slab is row `k` of the rectangle of rows from `o`. -/
theorem rows_emb {C : ℕ} {o n : ℕ} (inb : ∀ a, (![o, 0, 0] : Fin 3 → ℕ) a + (![n, 384, C] : Fin 3 → ℕ) a ≤ (⟨3, ![34, 384, C]⟩ : Shape).size a)
    (k : Fin n) (h : o + (k : ℕ) < 34) (x : Fin 384) (c : Fin C) :
    (ix3 ⟨o + k, h⟩ x c : (⟨3, ![34, 384, C]⟩ : Shape).Idx)
      = (Rect.unit (s := ⟨3, ![34, 384, C]⟩) ![o, 0, 0] ![n, 384, C] inb).emb (ix3 k x c) := by
  refine funext fun a => Fin.ext ?_
  fin_cases a
  · exact (congrArg (o + ·) (Nat.one_mul _)).symm
  · exact ((congrArg (0 + ·) (Nat.one_mul _)).trans (Nat.zero_add _)).symm
  · exact ((congrArg (0 + ·) (Nat.one_mul _)).trans (Nat.zero_add _)).symm

/-- A row outside the rectangle of rows from `o` is not in it. -/
theorem rows_miss {C : ℕ} {o n : ℕ} (inb : ∀ a, (![o, 0, 0] : Fin 3 → ℕ) a + (![n, 384, C] : Fin 3 → ℕ) a ≤ (⟨3, ![34, 384, C]⟩ : Shape).size a)
    (k : Fin 34) (h : (k : ℕ) < o ∨ o + n ≤ k) (x : Fin 384) (c : Fin C) :
    (ix3 k x c : (⟨3, ![34, 384, C]⟩ : Shape).Idx) ∉ (Rect.unit (s := ⟨3, ![34, 384, C]⟩) ![o, 0, 0] ![n, 384, C] inb).set := fun hm => by
  obtain ⟨j, hj, e⟩ := (LoadRect.mem_set _).mp hm 0
  have e' : (k : ℕ) = o + 1 * j := e
  have hj' : j < n := hj
  omega

/-- A store of the rows from `o` seen at one of its rows. -/
theorem rows_hit {C : ℕ} {o n : ℕ} (inb : ∀ a, (![o, 0, 0] : Fin 3 → ℕ) a + (![n, 384, C] : Fin 3 → ℕ) a ≤ (⟨3, ![34, 384, C]⟩ : Shape).size a)
    (w : FVec Ideal ⟨3, ![n, 384, C]⟩ .bf16) (L : List (View.Piece (Elt Ideal) ⟨3, ![34, 384, C]⟩ .bf16))
    (j : Fin n) (k : Fin 34) (h : (k : ℕ) = o + j) (x : Fin 384) (c : Fin C) :
    View.canon ((⟨Rect.unit (s := ⟨3, ![34, 384, C]⟩) ![o, 0, 0] ![n, 384, C] inb, w⟩ : View.Piece (Elt Ideal) ⟨3, ![34, 384, C]⟩ .bf16) :: L) (ix3 k x c) = w (ix3 j x c) := by
  have hk : k = ⟨o + j, h ▸ k.isLt⟩ := Fin.ext h
  rw [hk, rows_emb inb, View.canon_cons_emb]

/-- A store of the rows from `o` seen at a row outside: the earlier stores. -/
theorem rows_skip {C : ℕ} {o n : ℕ} (inb : ∀ a, (![o, 0, 0] : Fin 3 → ℕ) a + (![n, 384, C] : Fin 3 → ℕ) a ≤ (⟨3, ![34, 384, C]⟩ : Shape).size a)
    (w : FVec Ideal ⟨3, ![n, 384, C]⟩ .bf16) (L : List (View.Piece (Elt Ideal) ⟨3, ![34, 384, C]⟩ .bf16))
    (k : Fin 34) (h : (k : ℕ) < o ∨ o + n ≤ k) (x : Fin 384) (c : Fin C) :
    View.canon ((⟨Rect.unit (s := ⟨3, ![34, 384, C]⟩) ![o, 0, 0] ![n, 384, C] inb, w⟩ : View.Piece (Elt Ideal) ⟨3, ![34, 384, C]⟩ .bf16) :: L) (ix3 k x c)
      = View.canon L (ix3 k x c) :=
  View.canon_cons_of_not_mem _ _ (rows_miss inb k h x c)

/-- The slab read back: three stores (last row, first row, the rows between) that each agree with one function `G` of the
    slab's index leave `G`, so a load of 32 rows from row `s` reads `G` there. -/
theorem slab_read {C : ℕ} (v : View sig .tc .vmem ⟨3, ![34, 384, C]⟩ .bf16) (G : ℕ → Fin 384 → Fin C → EReal)
    (i33 : ∀ a, (![33, 0, 0] : Fin 3 → ℕ) a + (![1, 384, C] : Fin 3 → ℕ) a ≤ (⟨3, ![34, 384, C]⟩ : Shape).size a)
    (i0 : ∀ a, (![0, 0, 0] : Fin 3 → ℕ) a + (![1, 384, C] : Fin 3 → ℕ) a ≤ (⟨3, ![34, 384, C]⟩ : Shape).size a)
    (i1 : ∀ a, (![1, 0, 0] : Fin 3 → ℕ) a + (![32, 384, C] : Fin 3 → ℕ) a ≤ (⟨3, ![34, 384, C]⟩ : Shape).size a)
    (last first : FVec Ideal ⟨3, ![1, 384, C]⟩ .bf16) (mid : FVec Ideal ⟨3, ![32, 384, C]⟩ .bf16)
    (hl : ∀ x c, last (ix3 0 x c) = G 33 x c) (hf : ∀ x c, first (ix3 0 x c) = G 0 x c)
    (hm : ∀ (r : Fin 32) x c, mid (ix3 r x c) = G (r + 1) x c)
    (s : ℕ) (hs : s + 32 ≤ 34) (inb : ∀ a, (![s, 0, 0] : Fin 3 → ℕ) a + (![32, 384, C] : Fin 3 → ℕ) a ≤ (⟨3, ![34, 384, C]⟩ : Shape).size a) :
    v.readCov (Val := Elt Ideal) [(⟨Rect.unit ![33, 0, 0] ![1, 384, C] i33, last⟩ : View.Piece (Elt Ideal) ⟨3, ![34, 384, C]⟩ .bf16),
      ⟨Rect.unit ![0, 0, 0] ![1, 384, C] i0, first⟩, ⟨Rect.unit ![1, 0, 0] ![32, 384, C] i1, mid⟩]
      (Rect.unit (s := ⟨3, ![34, 384, C]⟩) ![s, 0, 0] ![32, 384, C] inb).toLoadRect
      = fun j : (⟨3, ![32, 384, C]⟩ : Shape).Idx => G (s + (j 0 : Fin 32)) (j 1) (j 2) := by
  rw [View.readCov_eq_canon']
  funext (j : (⟨3, ![32, 384, C]⟩ : Shape).Idx)
  obtain ⟨r, x, c, rfl⟩ : ∃ (r : Fin 32) (x : Fin 384) (c : Fin C), j = ix3 r x c := ⟨_, _, _, eq_ix3 j⟩
  change View.canon (Val := Elt Ideal) (s := ⟨3, ![34, 384, C]⟩) (e := .bf16) _ _ = G (s + r) x c
  have hy : (Rect.unit (s := ⟨3, ![34, 384, C]⟩) ![s, 0, 0] ![32, 384, C] inb).toLoadRect.idx (ix3 r x c)
      = (ix3 ⟨s + r, by omega⟩ x c : (⟨3, ![34, 384, C]⟩ : Shape).Idx) := (rows_emb inb r (by omega) x c).symm
  rw [hy]
  generalize hk : (⟨s + r, by omega⟩ : Fin 34) = k
  have hk' : (k : ℕ) = s + r := (congrArg Fin.val hk).symm
  rw [← hk']
  by_cases h33 : (k : ℕ) = 33
  · rw [h33]; exact (rows_hit i33 last _ 0 k h33 x c).trans (hl x c)
  refine (rows_skip i33 last _ k (by omega) x c).trans ?_
  by_cases h0 : (k : ℕ) = 0
  · rw [h0]; exact (rows_hit i0 first _ 0 k h0 x c).trans (hf x c)
  refine (rows_skip i0 first _ k (by omega) x c).trans ?_
  have e1 : (k : ℕ) = 1 + ((⟨k - 1, by omega⟩ : Fin 32) : ℕ) := by show (k : ℕ) = 1 + (k - 1); omega
  refine (rows_hit i1 mid _ ⟨k - 1, by omega⟩ k e1 x c).trans ((hm _ x c).trans ?_)
  show G (k - 1 + 1) x c = G k x c
  rw [Nat.sub_add_cancel (by omega)]

/-- The matrix product of the first two layers' kinds: one sum over the channels for each of the three stacked rows. -/
theorem pay0_mm (a b c : FVec Ideal S32x384x96 .bf16) (w : FVec Ideal S288x192 .bf16) (r : Fin 32) (x : Fin 384) (n : Fin 192) :
    k0_pay7 (F := Ideal) a b c w (ix3 r x n) = ∑ k : Fin 96, a (ix3 r x k) * w (ix2 ⟨k, by omega⟩ n)
      + (∑ k : Fin 96, b (ix3 r x k) * w (ix2 ⟨96 + k, by omega⟩ n) + ∑ k : Fin 96, c (ix3 r x k) * w (ix2 ⟨192 + k, by omega⟩ n)) := by
  pointwise [k0_pay7]
  rw [Fin.sum_univ_two_halves 96 192 rfl, Fin.sum_univ_two_halves 96 96 rfl]
  refine congrArg₂ (· + ·) (Finset.sum_congr rfl fun k _ => ?_) (congrArg₂ (· + ·) (Finset.sum_congr rfl fun k _ => ?_) (Finset.sum_congr rfl fun k _ => ?_))
  · rw [dif_pos (show (k : ℕ) < 96 by omega)]
  · rw [dif_neg (show ¬ 96 + (k : ℕ) < 96 by omega), dif_pos (show 96 + (k : ℕ) - 96 < 96 by omega)]
    congr 1; congr 1; congr 1; apply Fin.ext; simp only []; omega
  · rw [dif_neg (show ¬ 96 + (96 + (k : ℕ)) < 96 by omega), dif_neg (show ¬ 96 + (96 + (k : ℕ)) - 96 < 96 by omega)]
    refine congrArg₂ (· * ·) (congrArg c (congrArg (ix3 r x) (Fin.ext ?_))) (congrArg w (congrArg (ix2 · n) (Fin.ext ?_)))
    · show 96 + (96 + (k : ℕ)) - 96 - 96 = k; omega
    · show 96 + (96 + (k : ℕ)) = 192 + k; omega

/-- The mask `column ≥ 1`. -/
theorem sge_one (x : Fin 384) (a b : EReal) :
    Scalar.select (IntOp.cmpi CmpIPredicate.sge (BitVec.ofNat 32 ↑x) 1#32) a b = if 1 ≤ (x : ℕ) then a else b := by word_cmp

/-- The mask `column ≤ 382`. -/
theorem sle_382 (x : Fin 384) (a b : EReal) :
    Scalar.select (IntOp.cmpi CmpIPredicate.sle (BitVec.ofNat 32 ↑x) 382#32) a b = if (x : ℕ) ≤ 382 then a else b := by word_cmp

/-- The columns of one block shifted, masked and added: the convolution, when the block's product `v` holds its three columns. -/
theorem pay0_out {C : ℕ} (X : Image C) (w : Fin 3 → Fin 3 → Fin C → EReal) (y : Fin 384)
    (v : FVec Ideal S32x384x192 .f32) (b : FVec Ideal S1x64 .f32) (r : Fin 32) (x : Fin 384) (o : Fin 64)
    (hv : ∀ (j : Fin 3) (q : Fin 384), v (ix3 r q ⟨64 * j + o, by omega⟩) = column X (fun i => w i j) y (q + 1)) :
    k0_pay1 (F := Ideal) v b (ix4 0 r x o) = convAt X w (b (ix2 0 o)) y x := by
  rw [← conv_of_columns]
  pointwise [k0_pay1]
  rw [sge_one, sle_382]
  refine congrArg₂ max (congrArg (· + _) (congrArg₂ (· + ·) (congrArg₂ (· + ·) ?_ ?_) ?_)) rfl
  · by_cases h : 1 ≤ (x : ℕ)
    · rw [if_pos h, if_pos h, dif_neg (by omega)]
      refine (congrArg v ?_).trans ((hv 0 ⟨x - 1, by omega⟩).trans ?_)
      · exact congrArg (ix3 r _) (Fin.ext (by show (o : ℕ) = 64 * 0 + o; omega))
      · show column X _ y (x - 1 + 1) = _; rw [Nat.sub_add_cancel h]
    · rw [if_neg h, if_neg h]
  · exact hv 1 x
  · by_cases h : (x : ℕ) ≤ 382
    · rw [if_pos h, if_pos h, dif_pos (by omega)]
      refine (congrArg v ?_).trans (hv 2 ⟨x + 1, by omega⟩)
      exact congrArg₂ (ix3 r) (Fin.ext (Nat.add_comm _ _)) rfl
    · rw [if_neg h, if_neg h]

/-- The whole of one block of the first layer: with the slab holding the bordered image from row `y0`, the block's value is the convolution's. -/
theorem block0 (X : Image 96) (w : FVec Ideal S288x192 .bf16) (b : FVec Ideal S1x64 .f32) (y0 : ℕ) (hy : y0 + 32 ≤ 384)
    (r : Fin 32) (x : Fin 384) (o : Fin 64) :
    k0_pay1 (F := Ideal) (k0_pay7 (F := Ideal) (fun j : S32x384x96.Idx => bordered X (y0 + (0 + (j 0 : Fin 32))) ((j 1 : Fin 384) + 1) (j 2))
      (fun j : S32x384x96.Idx => bordered X (y0 + (1 + (j 0 : Fin 32))) ((j 1 : Fin 384) + 1) (j 2))
      (fun j : S32x384x96.Idx => bordered X (y0 + (2 + (j 0 : Fin 32))) ((j 1 : Fin 384) + 1) (j 2)) w) b (ix4 0 r x o)
    = convAt X (fun i j k => w (ix2 ⟨96 * i + k, by omega⟩ ⟨64 * j + o, by omega⟩)) (b (ix2 0 o)) ⟨y0 + r, by omega⟩ x := by
  refine pay0_out X _ ⟨y0 + r, by omega⟩ _ b r x o fun j q => ?_
  rw [pay0_mm]
  refine congrArg₂ (· + ·) (Finset.sum_congr rfl fun k _ => congrArg₂ (· * ·) ?_ ?_)
    (congrArg₂ (· + ·) (Finset.sum_congr rfl fun k _ => congrArg₂ (· * ·) ?_ ?_) (Finset.sum_congr rfl fun k _ => congrArg₂ (· * ·) ?_ ?_))
  · show bordered X (y0 + (0 + r)) (q + 1) k = bordered X (y0 + r) (q + 1) k; rw [Nat.zero_add]
  · exact congrArg w (congrArg (ix2 · _) (Fin.ext (by show (k : ℕ) = 96 * 0 + k; omega)))
  · show bordered X (y0 + (1 + r)) (q + 1) k = bordered X (y0 + r + 1) (q + 1) k; rw [Nat.add_comm 1, Nat.add_assoc]
  · rfl
  · show bordered X (y0 + (2 + r)) (q + 1) k = bordered X (y0 + r + 2) (q + 1) k; rw [Nat.add_comm 2, Nat.add_assoc]
  · rfl

end Cert.KernelIdeal.Val
-- ==== Proof.Region0Val.lean ====
/- The first convolution's array when its grid has run. -/
module

public import proofs.«01_k».proof.Proof.ConvPay
public import proofs.«01_k».proof.Proof.Gen.KernelIdeal.Frame.Region0

@[expose] public section

set_option maxRecDepth 16384

noncomputable section

namespace Cert.KernelIdeal.Val

open Idealize.ShloMosaic Idealize.ShloMosaic.TcCoe Idealize.SL.Sem
open Cert.KernelIdeal Cert.KernelIdeal.Gen Cert.Spec
open Idealize.ShloMosaic.Pipeline (Dat Cfg Window)

variable (V : (c : Dev nD) → (b : Ref sig .tc) → Buf (Elt Ideal) ((c : Thread nD τ).loc b))

/-- Where each window's block lies at a grid point: image `t / 12`, rows of block `t % 12` and its two neighbours. -/
theorem idx0 : ∀ t : Fin cfg0.N, win0_0.index t = ![t.val / 12, t.val % 12 - 1, 0, 0] ∧ win0_1.index t = ![t.val / 12, t.val % 12, 0, 0]
   ∧ win0_2.index t = ![t.val / 12, min (t.val % 12 + 1) 11, 0, 0] ∧ win0_3.index t = ![0, 0] ∧ win0_4.index t = ![0, 0]
   ∧ win0_5.index t = ![t.val / 12, t.val % 12, 0, 0] := (by decide +kernel : ∀ t : Fin grid0.N, _)

/-- The image the first layer reads at a grid point. -/
abbrev X0 (c : Dev nD) (t : Fin cfg0.N) : Image 96 := fun y x k => V c main_v1 (ix4 ⟨t.val / 12, by have := lt_of_lt_of_eq t.isLt N_0; omega⟩ y x k)

/-- The rows between: the block's own rows of the image. -/
theorem mid0 (c : Dev nD) (t : Fin cfg0.N) (r : Fin 32) (x : Fin 384) (k : Fin 96) :
    k0_pay2 (F := Ideal) (iblk0 V c 1 t) (ix3 r x k) = bordered (X0 V c t) (32 * (t.val % 12) + (r + 1)) (x + 1) k := by
  have ht := lt_of_lt_of_eq t.isLt N_0
  refine Eq.trans ?_ (bordered_in (X0 V c t) ⟨32 * (t.val % 12) + r, by omega⟩ x k).symm
  pointwise [k0_pay2]
  blk_point [iblk0, idx0 t]

/-- The row above, read from the previous block. -/
theorem first0 (c : Dev nD) (t : Fin cfg0.N) (h : 1 ≤ t.val % 12) (x : Fin 384) (k : Fin 96)
    (inb : ∀ a, (![0, 31, 0, 0] : Fin 4 → ℕ) a + (![1, 1, 384, 96] : Fin 4 → ℕ) a ≤ ((cfg0.win 0).xblock (cfg0.grid.coords t)).size a) :
    k0_pay4 (F := Ideal) (View.ld (iblk0 V c 0 t) (Rect.unit ![0, 31, 0, 0] ![1, 1, 384, 96] inb)) (ix3 0 x k)
      = bordered (X0 V c t) (32 * (t.val % 12) + 0) (x + 1) k := by
  have ht := lt_of_lt_of_eq t.isLt N_0
  refine Eq.trans ?_ ((bordered_in (X0 V c t) ⟨32 * (t.val % 12) - 1, by omega⟩ x k).symm.trans ?_)
  · pointwise [k0_pay4]
    blk_point [iblk0, idx0 t]
  · show bordered _ (32 * (t.val % 12) - 1 + 1) _ _ = _
    rw [Nat.sub_add_cancel (by omega)]; rfl

/-- The row above the image's first block: zeros. -/
theorem top0 (c : Dev nD) (t : Fin cfg0.N) (h : t.val % 12 = 0) (x : Fin 384) (k : Fin 96) :
    k0_pay3 (F := Ideal) (ix3 0 x k) = bordered (X0 V c t) (32 * (t.val % 12) + 0) (x + 1) k := by
  rw [bordered_row _ _ _ _ (Or.inl (by omega))]
  pointwise [k0_pay3]

/-- The row below, read from the next block. -/
theorem last0 (c : Dev nD) (t : Fin cfg0.N) (h : t.val % 12 ≤ 10) (x : Fin 384) (k : Fin 96)
    (inb : ∀ a, (![0, 0, 0, 0] : Fin 4 → ℕ) a + (![1, 1, 384, 96] : Fin 4 → ℕ) a ≤ ((cfg0.win 2).xblock (cfg0.grid.coords t)).size a) :
    k0_pay6 (F := Ideal) (View.ld (iblk0 V c 2 t) (Rect.unit ![0, 0, 0, 0] ![1, 1, 384, 96] inb)) (ix3 0 x k)
      = bordered (X0 V c t) (32 * (t.val % 12) + 33) (x + 1) k := by
  have ht := lt_of_lt_of_eq t.isLt N_0
  refine Eq.trans ?_ (bordered_in (X0 V c t) ⟨32 * (t.val % 12) + 32, by omega⟩ x k).symm
  pointwise [k0_pay6]
  blk_point [iblk0, idx0 t]

/-- The row below the image's last block: zeros. -/
theorem bottom0 (c : Dev nD) (t : Fin cfg0.N) (h : t.val % 12 = 11) (x : Fin 384) (k : Fin 96) :
    k0_pay5 (F := Ideal) (ix3 0 x k) = bordered (X0 V c t) (32 * (t.val % 12) + 33) (x + 1) k := by
  rw [bordered_row _ _ _ _ (Or.inr (by omega))]
  pointwise [k0_pay5]

/-- One grid point's output block: the block's function of the slab that holds the bordered image, whichever rows were at hand. -/
theorem outs0 (c : Dev nD) (t : Fin cfg0.N) :
    outsAt0 V c t.val t.isLt = k0_pay1 (F := Ideal)
      (k0_pay7 (F := Ideal) (fun j : S32x384x96.Idx => bordered (X0 V c t) (32 * (t.val % 12) + (0 + (j 0 : Fin 32))) ((j 1 : Fin 384) + 1) (j 2))
        (fun j : S32x384x96.Idx => bordered (X0 V c t) (32 * (t.val % 12) + (1 + (j 0 : Fin 32))) ((j 1 : Fin 384) + 1) (j 2))
        (fun j : S32x384x96.Idx => bordered (X0 V c t) (32 * (t.val % 12) + (2 + (j 0 : Fin 32))) ((j 1 : Fin 384) + 1) (j 2)) (iblk0 V c 3 t))
      (iblk0 V c 4 t) := by
  have rd := fun v last first hl hf s hs inb => slab_read (C := 96) v (fun s x k => bordered (X0 V c t) (32 * (t.val % 12) + s) (x + 1) k) (by decide) (by decide) (by decide)
    last first _ hl hf (mid0 V c t) s hs inb
  by_cases h0 : t.val % 12 = 0
  · rw [outsAt0_A V c t h0 (by omega) (by omega) (by omega)]
    frame_out
    refine congrArg (k0_pay1 (F := Ideal) · _) (congr (congr (congr (congrArg _ ?_) ?_) ?_) rfl)
    all_goals exact rd _ _ _ (last0 V c t (by omega) · · _) (top0 V c t h0) _ (by decide) _
  by_cases h11 : t.val % 12 = 11
  · rw [outsAt0_C V c t h0 (by omega) h11 (by omega)]
    frame_out
    refine congrArg (k0_pay1 (F := Ideal) · _) (congr (congr (congr (congrArg _ ?_) ?_) ?_) rfl)
    all_goals exact rd _ _ _ (bottom0 V c t h11) (first0 V c t (by omega) · · _) _ (by decide) _
  · rw [outsAt0_B V c t h0 (by omega) h11 (by omega)]
    frame_out
    refine congrArg (k0_pay1 (F := Ideal) · _) (congr (congr (congr (congrArg _ ?_) ?_) ?_) rfl)
    all_goals exact rd _ _ _ (last0 V c t (by omega) · · _) (first0 V c t (by omega) · · _) _ (by decide) _

/-- The first layer's value at one cell, of the arrays its grid finds. -/
def out0 (c : Dev nD) (b : Fin 2) (y x : Fin 384) (o : Fin 64) : EReal :=
  convAt (fun y x k => V c main_v1 (ix4 b y x k)) (fun p q k => V c main_v4 (ix2 ⟨96 * p + k, by omega⟩ ⟨64 * q + o, by omega⟩))
    (V c main_v5 (ix2 0 o)) y x

/-- The first layer's array when its grid has run: the convolution of the entry image. -/
theorem arr0 (c : Dev nD) : (dat0 V c).arrAt 5 cfg0.N = fun i : S2x384x384x64.Idx => out0 V c (i 0) (i 1) (i 2) (i 3) := by
  refine (dat0 V c).arrAt_eq_of_covers 5 _ (by decide +kernel) fun t hf (y : S1x32x384x64.Idx) => ?_
  have ht := lt_of_lt_of_eq t.isLt N_0
  blk_simp
  rw [after0_5, outs0]
  obtain ⟨z, r, x, o, rfl⟩ : ∃ (z : Fin 1) (r : Fin 32) (x : Fin 384) (o : Fin 64), y = ix4 z r x o := ⟨_, _, _, _, eq_ix4 y⟩
  obtain rfl : z = 0 := Subsingleton.elim _ _
  rw [block0 (X0 V c t) _ _ (32 * (t.val % 12)) (by omega)]
  have e0 : (win0_5.blk t).view.emb (ix4 0 r x o) 0 = (⟨t.val / 12, by omega⟩ : Fin 2) := Fin.ext (by blk_simp [idx0 t]; rfl)
  have e1 : (win0_5.blk t).view.emb (ix4 0 r x o) 1 = (⟨32 * (t.val % 12) + r, by omega⟩ : Fin 384) := Fin.ext (by blk_simp [idx0 t]; exact congrArg (· + (r : ℕ)) (Nat.mul_comm _ _))
  have e2 : (win0_5.blk t).view.emb (ix4 0 r x o) 2 = x := Fin.ext (by blk_simp [idx0 t])
  have e3 : (win0_5.blk t).view.emb (ix4 0 r x o) 3 = o := Fin.ext (by blk_simp [idx0 t])
  rw [e0, e1, e2, e3]
  unfold out0
  congr 1
  · funext p q k
    blk_point [iblk0, idx0 t]
  · blk_point [iblk0, idx0 t]

end Cert.KernelIdeal.Val
-- ==== Proof.ConvPay64.lean ====
/- The second and third layers' blocks at one index, by the lemmas of the first. -/
module

public import proofs.«01_k».proof.Proof.ConvPay
public import Idealize.ShloMosaic.Lib.Pointwise
public import Idealize.ShloMosaic.Lib.WordCmp
public import Idealize.ShloMosaic.Lib.Pipeline.ValueKit

@[expose] public section

set_option maxRecDepth 16384

noncomputable section

namespace Cert.KernelIdeal.Val

open Idealize.ShloMosaic Idealize.ShloMosaic.TcCoe Idealize.SL.Sem
open Cert.KernelIdeal Cert.KernelIdeal.Gen Cert.Spec

/-- The second layer's matrix product: one sum over the channels for each of the three stacked rows. -/
theorem pay1_mm (a b c : FVec Ideal S32x384x64 .bf16) (w : FVec Ideal S192x192 .bf16) (r : Fin 32) (x : Fin 384) (n : Fin 192) :
    k1_pay7 (F := Ideal) a b c w (ix3 r x n) = ∑ k : Fin 64, a (ix3 r x k) * w (ix2 ⟨k, by omega⟩ n)
      + (∑ k : Fin 64, b (ix3 r x k) * w (ix2 ⟨64 + k, by omega⟩ n) + ∑ k : Fin 64, c (ix3 r x k) * w (ix2 ⟨128 + k, by omega⟩ n)) := by
  pointwise [k1_pay7]
  rw [Fin.sum_univ_two_halves 64 128 rfl, Fin.sum_univ_two_halves 64 64 rfl]
  refine congrArg₂ (· + ·) (Finset.sum_congr rfl fun k _ => ?_) (congrArg₂ (· + ·) (Finset.sum_congr rfl fun k _ => ?_) (Finset.sum_congr rfl fun k _ => ?_))
  · rw [dif_pos (show (k : ℕ) < 64 by omega)]
  · rw [dif_neg (show ¬ 64 + (k : ℕ) < 64 by omega), dif_pos (show 64 + (k : ℕ) - 64 < 64 by omega)]
    congr 1; congr 1; congr 1; apply Fin.ext; simp only []; omega
  · rw [dif_neg (show ¬ 64 + (64 + (k : ℕ)) < 64 by omega), dif_neg (show ¬ 64 + (64 + (k : ℕ)) - 64 < 64 by omega)]
    refine congrArg₂ (· * ·) (congrArg c (congrArg (ix3 r x) (Fin.ext ?_))) (congrArg w (congrArg (ix2 · n) (Fin.ext ?_)))
    · show 64 + (64 + (k : ℕ)) - 64 - 64 = k; omega
    · show 64 + (64 + (k : ℕ)) = 128 + k; omega

/-- The whole of one block of the second layer: with the slab holding the bordered image from row `y0`, the block's value is the convolution's. -/
theorem block1 (X : Image 64) (w : FVec Ideal S192x192 .bf16) (b : FVec Ideal S1x64 .f32) (y0 : ℕ) (hy : y0 + 32 ≤ 384)
    (r : Fin 32) (x : Fin 384) (o : Fin 64) :
    k1_pay1 (F := Ideal) (k1_pay7 (F := Ideal) (fun j : S32x384x64.Idx => bordered X (y0 + (0 + (j 0 : Fin 32))) ((j 1 : Fin 384) + 1) (j 2))
      (fun j : S32x384x64.Idx => bordered X (y0 + (1 + (j 0 : Fin 32))) ((j 1 : Fin 384) + 1) (j 2))
      (fun j : S32x384x64.Idx => bordered X (y0 + (2 + (j 0 : Fin 32))) ((j 1 : Fin 384) + 1) (j 2)) w) b (ix4 0 r x o)
    = convAt X (fun i j k => w (ix2 ⟨64 * i + k, by omega⟩ ⟨64 * j + o, by omega⟩)) (b (ix2 0 o)) ⟨y0 + r, by omega⟩ x := by
  refine pay0_out X _ ⟨y0 + r, by omega⟩ _ b r x o fun j q => ?_
  rw [pay1_mm]
  refine congrArg₂ (· + ·) (Finset.sum_congr rfl fun k _ => congrArg₂ (· * ·) ?_ ?_)
    (congrArg₂ (· + ·) (Finset.sum_congr rfl fun k _ => congrArg₂ (· * ·) ?_ ?_) (Finset.sum_congr rfl fun k _ => congrArg₂ (· * ·) ?_ ?_))
  · show bordered X (y0 + (0 + r)) (q + 1) k = bordered X (y0 + r) (q + 1) k; rw [Nat.zero_add]
  · exact congrArg w (congrArg (ix2 · _) (Fin.ext (by show (k : ℕ) = 64 * 0 + k; omega)))
  · show bordered X (y0 + (1 + r)) (q + 1) k = bordered X (y0 + r + 1) (q + 1) k; rw [Nat.add_comm 1, Nat.add_assoc]
  · rfl
  · show bordered X (y0 + (2 + r)) (q + 1) k = bordered X (y0 + r + 2) (q + 1) k; rw [Nat.add_comm 2, Nat.add_assoc]
  · rfl

/-- The third layer's matrix product: one sum over the channels for each of the three stacked rows. -/
theorem pay2_mm (a b c : FVec Ideal S32x384x64 .bf16) (w : FVec Ideal S192x96 .bf16) (r : Fin 32) (x : Fin 384) (n : Fin 96) :
    k2_pay10 (F := Ideal) a b c w (ix3 r x n) = ∑ k : Fin 64, a (ix3 r x k) * w (ix2 ⟨k, by omega⟩ n)
      + (∑ k : Fin 64, b (ix3 r x k) * w (ix2 ⟨64 + k, by omega⟩ n) + ∑ k : Fin 64, c (ix3 r x k) * w (ix2 ⟨128 + k, by omega⟩ n)) := by
  pointwise [k2_pay10]
  rw [Fin.sum_univ_two_halves 64 128 rfl, Fin.sum_univ_two_halves 64 64 rfl]
  refine congrArg₂ (· + ·) (Finset.sum_congr rfl fun k _ => ?_) (congrArg₂ (· + ·) (Finset.sum_congr rfl fun k _ => ?_) (Finset.sum_congr rfl fun k _ => ?_))
  · rw [dif_pos (show (k : ℕ) < 64 by omega)]
  · rw [dif_neg (show ¬ 64 + (k : ℕ) < 64 by omega), dif_pos (show 64 + (k : ℕ) - 64 < 64 by omega)]
    congr 1; congr 1; congr 1; apply Fin.ext; simp only []; omega
  · rw [dif_neg (show ¬ 64 + (64 + (k : ℕ)) < 64 by omega), dif_neg (show ¬ 64 + (64 + (k : ℕ)) - 64 < 64 by omega)]
    refine congrArg₂ (· * ·) (congrArg c (congrArg (ix3 r x) (Fin.ext ?_))) (congrArg w (congrArg (ix2 · n) (Fin.ext ?_)))
    · show 64 + (64 + (k : ℕ)) - 64 - 64 = k; omega
    · show 64 + (64 + (k : ℕ)) = 128 + k; omega

/-- The columns of one block of the third layer shifted, masked and added: the convolution, when the block's product `v` holds its three columns. -/
theorem pay2_out {C : ℕ} (X : Image C) (w : Fin 3 → Fin 3 → Fin C → EReal) (y : Fin 384)
    (v : FVec Ideal S32x384x96 .f32) (b : FVec Ideal S1x32 .f32) (r : Fin 32) (x : Fin 384) (o : Fin 32)
    (hv : ∀ (j : Fin 3) (q : Fin 384), v (ix3 r q ⟨32 * j + o, by omega⟩) = column X (fun i => w i j) y (q + 1)) :
    k2_pay11 (F := Ideal) v b (ix3 r x o) = convAt X w (b (ix2 0 o)) y x := by
  rw [← conv_of_columns]
  pointwise [k2_pay11]
  rw [sge_one, sle_382]
  refine congrArg₂ max (congrArg (· + _) (congrArg₂ (· + ·) (congrArg₂ (· + ·) ?_ ?_) ?_)) rfl
  · by_cases h : 1 ≤ (x : ℕ)
    · rw [if_pos h, if_pos h, dif_neg (by omega)]
      refine (congrArg v ?_).trans ((hv 0 ⟨x - 1, by omega⟩).trans ?_)
      · exact congrArg (ix3 r _) (Fin.ext (by show (o : ℕ) = 32 * 0 + o; omega))
      · show column X _ y (x - 1 + 1) = _; rw [Nat.sub_add_cancel h]
    · rw [if_neg h, if_neg h]
  · exact hv 1 x
  · by_cases h : (x : ℕ) ≤ 382
    · rw [if_pos h, if_pos h, dif_pos (by omega)]
      refine (congrArg v ?_).trans (hv 2 ⟨x + 1, by omega⟩)
      exact congrArg₂ (ix3 r) (Fin.ext (Nat.add_comm _ _)) rfl
    · rw [if_neg h, if_neg h]

/-- The whole of one block of the third layer: with the slab holding the bordered image from row `y0`, the block's value is the convolution's. -/
theorem block2 (X : Image 64) (w : FVec Ideal S192x96 .bf16) (b : FVec Ideal S1x32 .f32) (y0 : ℕ) (hy : y0 + 32 ≤ 384)
    (r : Fin 32) (x : Fin 384) (o : Fin 32) :
    k2_pay11 (F := Ideal) (k2_pay10 (F := Ideal) (fun j : S32x384x64.Idx => bordered X (y0 + (0 + (j 0 : Fin 32))) ((j 1 : Fin 384) + 1) (j 2))
      (fun j : S32x384x64.Idx => bordered X (y0 + (1 + (j 0 : Fin 32))) ((j 1 : Fin 384) + 1) (j 2))
      (fun j : S32x384x64.Idx => bordered X (y0 + (2 + (j 0 : Fin 32))) ((j 1 : Fin 384) + 1) (j 2)) w) b (ix3 r x o)
    = convAt X (fun i j k => w (ix2 ⟨64 * i + k, by omega⟩ ⟨32 * j + o, by omega⟩)) (b (ix2 0 o)) ⟨y0 + r, by omega⟩ x := by
  refine pay2_out X _ ⟨y0 + r, by omega⟩ _ b r x o fun j q => ?_
  rw [pay2_mm]
  refine congrArg₂ (· + ·) (Finset.sum_congr rfl fun k _ => congrArg₂ (· * ·) ?_ ?_)
    (congrArg₂ (· + ·) (Finset.sum_congr rfl fun k _ => congrArg₂ (· * ·) ?_ ?_) (Finset.sum_congr rfl fun k _ => congrArg₂ (· * ·) ?_ ?_))
  · show bordered X (y0 + (0 + r)) (q + 1) k = bordered X (y0 + r) (q + 1) k; rw [Nat.zero_add]
  · exact congrArg w (congrArg (ix2 · _) (Fin.ext (by show (k : ℕ) = 64 * 0 + k; omega)))
  · show bordered X (y0 + (1 + r)) (q + 1) k = bordered X (y0 + r + 1) (q + 1) k; rw [Nat.add_comm 1, Nat.add_assoc]
  · rfl
  · show bordered X (y0 + (2 + r)) (q + 1) k = bordered X (y0 + r + 2) (q + 1) k; rw [Nat.add_comm 2, Nat.add_assoc]
  · rfl

end Cert.KernelIdeal.Val
-- ==== Proof.Region1Val.lean ====
/- The second convolution's array when its grid has run. -/
module

public import proofs.«01_k».proof.Proof.ConvPay64
public import proofs.«01_k».proof.Proof.Gen.KernelIdeal.Frame.Region1

@[expose] public section

set_option maxRecDepth 16384

noncomputable section

namespace Cert.KernelIdeal.Val

open Idealize.ShloMosaic Idealize.ShloMosaic.TcCoe Idealize.SL.Sem
open Cert.KernelIdeal Cert.KernelIdeal.Gen Cert.Spec
open Idealize.ShloMosaic.Pipeline (Dat Cfg Window)

variable (V : (c : Dev nD) → (b : Ref sig .tc) → Buf (Elt Ideal) ((c : Thread nD τ).loc b))

/-- Where each window's block lies at a grid point: image `t / 12`, rows of block `t % 12` and its two neighbours. -/
theorem idx1 : ∀ t : Fin cfg1.N, win1_0.index t = ![t.val / 12, t.val % 12 - 1, 0, 0] ∧ win1_1.index t = ![t.val / 12, t.val % 12, 0, 0]
   ∧ win1_2.index t = ![t.val / 12, min (t.val % 12 + 1) 11, 0, 0] ∧ win1_3.index t = ![0, 0] ∧ win1_4.index t = ![0, 0]
   ∧ win1_5.index t = ![t.val / 12, t.val % 12, 0, 0] := (by decide +kernel : ∀ t : Fin grid1.N, _)

/-- The image the second layer reads at a grid point. -/
abbrev X1 (c : Dev nD) (t : Fin cfg1.N) : Image 64 := fun y x k => V c main_v6 (ix4 ⟨t.val / 12, by have := lt_of_lt_of_eq t.isLt N_1; omega⟩ y x k)

/-- The rows between: the block's own rows of the image. -/
theorem mid1 (c : Dev nD) (t : Fin cfg1.N) (r : Fin 32) (x : Fin 384) (k : Fin 64) :
    k1_pay2 (F := Ideal) (iblk1 V c 1 t) (ix3 r x k) = bordered (X1 V c t) (32 * (t.val % 12) + (r + 1)) (x + 1) k := by
  have ht := lt_of_lt_of_eq t.isLt N_1
  refine Eq.trans ?_ (bordered_in (X1 V c t) ⟨32 * (t.val % 12) + r, by omega⟩ x k).symm
  pointwise [k1_pay2]
  blk_point [iblk1, idx1 t]

/-- The row above, read from the previous block. -/
theorem first1 (c : Dev nD) (t : Fin cfg1.N) (h : 1 ≤ t.val % 12) (x : Fin 384) (k : Fin 64)
    (inb : ∀ a, (![0, 31, 0, 0] : Fin 4 → ℕ) a + (![1, 1, 384, 64] : Fin 4 → ℕ) a ≤ ((cfg1.win 0).xblock (cfg1.grid.coords t)).size a) :
    k1_pay4 (F := Ideal) (View.ld (iblk1 V c 0 t) (Rect.unit ![0, 31, 0, 0] ![1, 1, 384, 64] inb)) (ix3 0 x k)
      = bordered (X1 V c t) (32 * (t.val % 12) + 0) (x + 1) k := by
  have ht := lt_of_lt_of_eq t.isLt N_1
  refine Eq.trans ?_ ((bordered_in (X1 V c t) ⟨32 * (t.val % 12) - 1, by omega⟩ x k).symm.trans ?_)
  · pointwise [k1_pay4]
    blk_point [iblk1, idx1 t]
  · show bordered _ (32 * (t.val % 12) - 1 + 1) _ _ = _
    rw [Nat.sub_add_cancel (by omega)]; rfl

/-- The row above the image's first block: zeros. -/
theorem top1 (c : Dev nD) (t : Fin cfg1.N) (h : t.val % 12 = 0) (x : Fin 384) (k : Fin 64) :
    k1_pay3 (F := Ideal) (ix3 0 x k) = bordered (X1 V c t) (32 * (t.val % 12) + 0) (x + 1) k := by
  rw [bordered_row _ _ _ _ (Or.inl (by omega))]
  pointwise [k1_pay3]

/-- The row below, read from the next block. -/
theorem last1 (c : Dev nD) (t : Fin cfg1.N) (h : t.val % 12 ≤ 10) (x : Fin 384) (k : Fin 64)
    (inb : ∀ a, (![0, 0, 0, 0] : Fin 4 → ℕ) a + (![1, 1, 384, 64] : Fin 4 → ℕ) a ≤ ((cfg1.win 2).xblock (cfg1.grid.coords t)).size a) :
    k1_pay6 (F := Ideal) (View.ld (iblk1 V c 2 t) (Rect.unit ![0, 0, 0, 0] ![1, 1, 384, 64] inb)) (ix3 0 x k)
      = bordered (X1 V c t) (32 * (t.val % 12) + 33) (x + 1) k := by
  have ht := lt_of_lt_of_eq t.isLt N_1
  refine Eq.trans ?_ (bordered_in (X1 V c t) ⟨32 * (t.val % 12) + 32, by omega⟩ x k).symm
  pointwise [k1_pay6]
  blk_point [iblk1, idx1 t]

/-- The row below the image's last block: zeros. -/
theorem bottom1 (c : Dev nD) (t : Fin cfg1.N) (h : t.val % 12 = 11) (x : Fin 384) (k : Fin 64) :
    k1_pay5 (F := Ideal) (ix3 0 x k) = bordered (X1 V c t) (32 * (t.val % 12) + 33) (x + 1) k := by
  rw [bordered_row _ _ _ _ (Or.inr (by omega))]
  pointwise [k1_pay5]

/-- One grid point's output block: the block's function of the slab that holds the bordered image, whichever rows were at hand. -/
theorem outs1 (c : Dev nD) (t : Fin cfg1.N) :
    outsAt1 V c t.val t.isLt = k1_pay1 (F := Ideal)
      (k1_pay7 (F := Ideal) (fun j : S32x384x64.Idx => bordered (X1 V c t) (32 * (t.val % 12) + (0 + (j 0 : Fin 32))) ((j 1 : Fin 384) + 1) (j 2))
        (fun j : S32x384x64.Idx => bordered (X1 V c t) (32 * (t.val % 12) + (1 + (j 0 : Fin 32))) ((j 1 : Fin 384) + 1) (j 2))
        (fun j : S32x384x64.Idx => bordered (X1 V c t) (32 * (t.val % 12) + (2 + (j 0 : Fin 32))) ((j 1 : Fin 384) + 1) (j 2)) (iblk1 V c 3 t))
      (iblk1 V c 4 t) := by
  have rd := fun v last first hl hf s hs inb => slab_read (C := 64) v (fun s x k => bordered (X1 V c t) (32 * (t.val % 12) + s) (x + 1) k) (by decide) (by decide) (by decide)
    last first _ hl hf (mid1 V c t) s hs inb
  by_cases h0 : t.val % 12 = 0
  · rw [outsAt1_A V c t h0 (by omega) (by omega) (by omega)]
    frame_out
    refine congrArg (k1_pay1 (F := Ideal) · _) (congr (congr (congr (congrArg _ ?_) ?_) ?_) rfl)
    all_goals exact rd _ _ _ (last1 V c t (by omega) · · _) (top1 V c t h0) _ (by decide) _
  by_cases h11 : t.val % 12 = 11
  · rw [outsAt1_C V c t h0 (by omega) h11 (by omega)]
    frame_out
    refine congrArg (k1_pay1 (F := Ideal) · _) (congr (congr (congr (congrArg _ ?_) ?_) ?_) rfl)
    all_goals exact rd _ _ _ (bottom1 V c t h11) (first1 V c t (by omega) · · _) _ (by decide) _
  · rw [outsAt1_B V c t h0 (by omega) h11 (by omega)]
    frame_out
    refine congrArg (k1_pay1 (F := Ideal) · _) (congr (congr (congr (congrArg _ ?_) ?_) ?_) rfl)
    all_goals exact rd _ _ _ (last1 V c t (by omega) · · _) (first1 V c t (by omega) · · _) _ (by decide) _

/-- The second layer's value at one cell, of the arrays its grid finds. -/
def out1 (c : Dev nD) (b : Fin 2) (y x : Fin 384) (o : Fin 64) : EReal :=
  convAt (fun y x k => V c main_v6 (ix4 b y x k)) (fun p q k => V c main_v9 (ix2 ⟨64 * p + k, by omega⟩ ⟨64 * q + o, by omega⟩))
    (V c main_v10 (ix2 0 o)) y x

/-- The second layer's array when its grid has run: the convolution of the entry image. -/
theorem arr1 (c : Dev nD) : (dat1 V c).arrAt 5 cfg1.N = fun i : S2x384x384x64.Idx => out1 V c (i 0) (i 1) (i 2) (i 3) := by
  refine (dat1 V c).arrAt_eq_of_covers 5 _ (by decide +kernel) fun t hf (y : S1x32x384x64.Idx) => ?_
  have ht := lt_of_lt_of_eq t.isLt N_1
  blk_simp
  rw [after1_5, outs1]
  obtain ⟨z, r, x, o, rfl⟩ : ∃ (z : Fin 1) (r : Fin 32) (x : Fin 384) (o : Fin 64), y = ix4 z r x o := ⟨_, _, _, _, eq_ix4 y⟩
  obtain rfl : z = 0 := Subsingleton.elim _ _
  rw [block1 (X1 V c t) _ _ (32 * (t.val % 12)) (by omega)]
  have e0 : (win1_5.blk t).view.emb (ix4 0 r x o) 0 = (⟨t.val / 12, by omega⟩ : Fin 2) := Fin.ext (by blk_simp [idx1 t]; rfl)
  have e1 : (win1_5.blk t).view.emb (ix4 0 r x o) 1 = (⟨32 * (t.val % 12) + r, by omega⟩ : Fin 384) := Fin.ext (by blk_simp [idx1 t]; exact congrArg (· + (r : ℕ)) (Nat.mul_comm _ _))
  have e2 : (win1_5.blk t).view.emb (ix4 0 r x o) 2 = x := Fin.ext (by blk_simp [idx1 t])
  have e3 : (win1_5.blk t).view.emb (ix4 0 r x o) 3 = o := Fin.ext (by blk_simp [idx1 t])
  rw [e0, e1, e2, e3]
  unfold out1
  congr 1
  · funext p q k
    blk_point [iblk1, idx1 t]
  · blk_point [iblk1, idx1 t]

end Cert.KernelIdeal.Val
-- ==== Proof.Region2Val.lean ====
/- The third convolution with the direction head: its two arrays when its grid has run. -/
module

public import proofs.«01_k».proof.Proof.ConvPay64
public import proofs.«01_k».proof.Proof.Gen.KernelIdeal.Frame.Region2

@[expose] public section

set_option maxRecDepth 16384

noncomputable section

namespace Cert.KernelIdeal.Val

open Idealize.ShloMosaic Idealize.ShloMosaic.TcCoe Idealize.SL.Sem
open Cert.KernelIdeal Cert.KernelIdeal.Gen Cert.Spec
open Idealize.ShloMosaic.Pipeline (Dat Cfg Window)

/-- The first direction component before normalisation: the channel sum with its weights, and its bias. -/
theorem pay12_at (v : FVec Ideal S32x384x96 .f32) (b w : FVec Ideal S1x32 .f32) (s : EReal) (r : Fin 32) (x : Fin 384) :
    k2_pay12 (F := Ideal) v b w s (ix2 r x) = (∑ o : Fin 32, k2_pay11 (F := Ideal) v b (ix3 r x o) * w (ix2 0 o)) + s := by
  pointwise [k2_pay12]

/-- The second component's channel sum. -/
theorem pay13_at (v : FVec Ideal S32x384x96 .f32) (b w : FVec Ideal S1x32 .f32) (r : Fin 32) (x : Fin 384) :
    k2_pay13 (F := Ideal) v b w (ix2 r x) = ∑ o : Fin 32, k2_pay11 (F := Ideal) v b (ix3 r x o) * w (ix2 0 o) := by
  pointwise [k2_pay13]

/-- The least squared length the kernel divides by. -/
def eps2 : EReal := Named.named (F := Ideal) κ "eps_squared" (φ := .f32) 0x179ABE15#32

/-- The first component normalised. -/
theorem pay3_at (d0 s1 : FVec Ideal S32x384 .f32) (b : EReal) (r : Fin 32) (x : Fin 384) :
    k2_pay3 (F := Ideal) d0 s1 b (ix3 0 r x) = d0 (ix2 r x)
      * Ideal.rsqrt (max (d0 (ix2 r x) * d0 (ix2 r x) + (s1 (ix2 r x) + b) * (s1 (ix2 r x) + b)) eps2) := by
  pointwise [k2_pay3, k2_pay2, k2_pay1]
  rfl

/-- The second component normalised. -/
theorem pay4_at (d0 s1 : FVec Ideal S32x384 .f32) (b : EReal) (r : Fin 32) (x : Fin 384) :
    k2_pay4 (F := Ideal) d0 s1 b (ix3 0 r x) = (s1 (ix2 r x) + b)
      * Ideal.rsqrt (max (d0 (ix2 r x) * d0 (ix2 r x) + (s1 (ix2 r x) + b) * (s1 (ix2 r x) + b)) eps2) := by
  pointwise [k2_pay4, k2_pay2, k2_pay1]
  rfl

variable (V : (c : Dev nD) → (b : Ref sig .tc) → Buf (Elt Ideal) ((c : Thread nD τ).loc b))

/-- Where each window's block lies at a grid point: image `t / 12`, rows of block `t % 12` and its two neighbours. -/
theorem idx2 : ∀ t : Fin cfg2.N, win2_0.index t = ![t.val / 12, t.val % 12 - 1, 0, 0] ∧ win2_1.index t = ![t.val / 12, t.val % 12, 0, 0]
   ∧ win2_2.index t = ![t.val / 12, min (t.val % 12 + 1) 11, 0, 0] ∧ win2_3.index t = ![0, 0] ∧ win2_4.index t = ![0, 0]
   ∧ win2_5.index t = ![0, 0] ∧ win2_6.index t = ![0, 0] ∧ win2_7.index t = ![0]
   ∧ win2_8.index t = ![t.val / 12, t.val % 12, 0] ∧ win2_9.index t = ![t.val / 12, t.val % 12, 0] := (by decide +kernel : ∀ t : Fin grid2.N, _)

/-- The image the third layer reads at a grid point. -/
abbrev X2 (c : Dev nD) (t : Fin cfg2.N) : Image 64 := fun y x k => V c main_v11 (ix4 ⟨t.val / 12, by have := lt_of_lt_of_eq t.isLt N_2; omega⟩ y x k)

/-- The rows between: the block's own rows of the image. -/
theorem mid2 (c : Dev nD) (t : Fin cfg2.N) (r : Fin 32) (x : Fin 384) (k : Fin 64) :
    k2_pay5 (F := Ideal) (iblk2 V c 1 t) (ix3 r x k) = bordered (X2 V c t) (32 * (t.val % 12) + (r + 1)) (x + 1) k := by
  have ht := lt_of_lt_of_eq t.isLt N_2
  refine Eq.trans ?_ (bordered_in (X2 V c t) ⟨32 * (t.val % 12) + r, by omega⟩ x k).symm
  pointwise [k2_pay5]
  blk_point [iblk2, idx2 t]

/-- The row above, read from the previous block. -/
theorem first2 (c : Dev nD) (t : Fin cfg2.N) (h : 1 ≤ t.val % 12) (x : Fin 384) (k : Fin 64)
    (inb : ∀ a, (![0, 31, 0, 0] : Fin 4 → ℕ) a + (![1, 1, 384, 64] : Fin 4 → ℕ) a ≤ ((cfg2.win 0).xblock (cfg2.grid.coords t)).size a) :
    k2_pay7 (F := Ideal) (View.ld (iblk2 V c 0 t) (Rect.unit ![0, 31, 0, 0] ![1, 1, 384, 64] inb)) (ix3 0 x k)
      = bordered (X2 V c t) (32 * (t.val % 12) + 0) (x + 1) k := by
  have ht := lt_of_lt_of_eq t.isLt N_2
  refine Eq.trans ?_ ((bordered_in (X2 V c t) ⟨32 * (t.val % 12) - 1, by omega⟩ x k).symm.trans ?_)
  · pointwise [k2_pay7]
    blk_point [iblk2, idx2 t]
  · show bordered _ (32 * (t.val % 12) - 1 + 1) _ _ = _
    rw [Nat.sub_add_cancel (by omega)]; rfl

/-- The row above the image's first block: zeros. -/
theorem top2 (c : Dev nD) (t : Fin cfg2.N) (h : t.val % 12 = 0) (x : Fin 384) (k : Fin 64) :
    k2_pay6 (F := Ideal) (ix3 0 x k) = bordered (X2 V c t) (32 * (t.val % 12) + 0) (x + 1) k := by
  rw [bordered_row _ _ _ _ (Or.inl (by omega))]
  pointwise [k2_pay6]

/-- The row below, read from the next block. -/
theorem last2 (c : Dev nD) (t : Fin cfg2.N) (h : t.val % 12 ≤ 10) (x : Fin 384) (k : Fin 64)
    (inb : ∀ a, (![0, 0, 0, 0] : Fin 4 → ℕ) a + (![1, 1, 384, 64] : Fin 4 → ℕ) a ≤ ((cfg2.win 2).xblock (cfg2.grid.coords t)).size a) :
    k2_pay9 (F := Ideal) (View.ld (iblk2 V c 2 t) (Rect.unit ![0, 0, 0, 0] ![1, 1, 384, 64] inb)) (ix3 0 x k)
      = bordered (X2 V c t) (32 * (t.val % 12) + 33) (x + 1) k := by
  have ht := lt_of_lt_of_eq t.isLt N_2
  refine Eq.trans ?_ (bordered_in (X2 V c t) ⟨32 * (t.val % 12) + 32, by omega⟩ x k).symm
  pointwise [k2_pay9]
  blk_point [iblk2, idx2 t]

/-- The row below the image's last block: zeros. -/
theorem bottom2 (c : Dev nD) (t : Fin cfg2.N) (h : t.val % 12 = 11) (x : Fin 384) (k : Fin 64) :
    k2_pay8 (F := Ideal) (ix3 0 x k) = bordered (X2 V c t) (32 * (t.val % 12) + 33) (x + 1) k := by
  rw [bordered_row _ _ _ _ (Or.inr (by omega))]
  pointwise [k2_pay8]

/-- A single cell has one element. -/
theorem one_numel : 0 < (⟨1, ![1]⟩ : Shape).numel := by decide

/-- Both outputs of one grid point, as functions of the block's matrix product. -/
def head2 (c : Dev nD) (t : Fin cfg2.N) (S : FVec Ideal S32x384x96 .f32) : Vec Ideal S1x32x384 .f32 × Vec Ideal S1x32x384 .f32 :=
  (k2_pay3 (F := Ideal) (k2_pay12 (F := Ideal) S (iblk2 V c 4 t) (iblk2 V c 5 t) (View.ld (iblk2 V c 7 t) (Rect.unit ![0] ![1] inb_S2_S1_0) (Shape.Idx.first one_numel)))
      (k2_pay13 (F := Ideal) S (iblk2 V c 4 t) (iblk2 V c 6 t)) (View.ld (iblk2 V c 7 t) (Rect.unit ![1] ![1] inb_S2_S1_1) (Shape.Idx.first one_numel)),
    k2_pay4 (F := Ideal) (k2_pay12 (F := Ideal) S (iblk2 V c 4 t) (iblk2 V c 5 t) (View.ld (iblk2 V c 7 t) (Rect.unit ![0] ![1] inb_S2_S1_0) (Shape.Idx.first one_numel)))
      (k2_pay13 (F := Ideal) S (iblk2 V c 4 t) (iblk2 V c 6 t)) (View.ld (iblk2 V c 7 t) (Rect.unit ![1] ![1] inb_S2_S1_1) (Shape.Idx.first one_numel)))

/-- One grid point's output block: the block's function of the slab that holds the bordered image, whichever rows were at hand. -/
theorem outs2 (c : Dev nD) (t : Fin cfg2.N) :
    outsAt2 V c t.val t.isLt = head2 V c t
      (k2_pay10 (F := Ideal) (fun j : S32x384x64.Idx => bordered (X2 V c t) (32 * (t.val % 12) + (0 + (j 0 : Fin 32))) ((j 1 : Fin 384) + 1) (j 2))
        (fun j : S32x384x64.Idx => bordered (X2 V c t) (32 * (t.val % 12) + (1 + (j 0 : Fin 32))) ((j 1 : Fin 384) + 1) (j 2))
        (fun j : S32x384x64.Idx => bordered (X2 V c t) (32 * (t.val % 12) + (2 + (j 0 : Fin 32))) ((j 1 : Fin 384) + 1) (j 2)) (iblk2 V c 3 t)) := by
  have rd := fun v last first hl hf s hs inb => slab_read (C := 64) v (fun s x k => bordered (X2 V c t) (32 * (t.val % 12) + s) (x + 1) k) (by decide) (by decide) (by decide)
    last first _ hl hf (mid2 V c t) s hs inb
  by_cases h0 : t.val % 12 = 0
  · rw [outsAt2_A V c t h0 (by omega) (by omega) (by omega)]
    frame_out
    refine congrArg (head2 V c t) (congr (congr (congr (congrArg _ ?_) ?_) ?_) rfl)
    all_goals exact rd _ _ _ (last2 V c t (by omega) · · _) (top2 V c t h0) _ (by decide) _
  by_cases h11 : t.val % 12 = 11
  · rw [outsAt2_C V c t h0 (by omega) h11 (by omega)]
    frame_out
    refine congrArg (head2 V c t) (congr (congr (congr (congrArg _ ?_) ?_) ?_) rfl)
    all_goals exact rd _ _ _ (bottom2 V c t h11) (first2 V c t (by omega) · · _) _ (by decide) _
  · rw [outsAt2_B V c t h0 (by omega) h11 (by omega)]
    frame_out
    refine congrArg (head2 V c t) (congr (congr (congr (congrArg _ ?_) ?_) ?_) rfl)
    all_goals exact rd _ _ _ (last2 V c t (by omega) · · _) (first2 V c t (by omega) · · _) _ (by decide) _

/-- The third layer's value at one cell, of the arrays its grid finds. -/
def hid2 (c : Dev nD) (b : Fin 2) (y x : Fin 384) (o : Fin 32) : EReal :=
  convAt (fun y x k => V c main_v11 (ix4 b y x k)) (fun p q k => V c main_v17 (ix2 ⟨64 * p + k, by omega⟩ ⟨32 * q + o, by omega⟩))
    (V c main_v18 (ix2 0 o)) y x

/-- The two direction components before normalisation. -/
def dirX (c : Dev nD) (b : Fin 2) (y x : Fin 384) : EReal :=
  (∑ o : Fin 32, hid2 V c b y x o * (show EReal from V c main_v19 (ix2 0 o))) + (show EReal from V c main_arg9 (ix1 0))
@[inherit_doc dirX]
def dirY (c : Dev nD) (b : Fin 2) (y x : Fin 384) : EReal :=
  (∑ o : Fin 32, hid2 V c b y x o * (show EReal from V c main_v20 (ix2 0 o))) + (show EReal from V c main_arg9 (ix1 1))

/-- The reciprocal length both are scaled by. -/
def invLen (c : Dev nD) (b : Fin 2) (y x : Fin 384) : EReal :=
  Ideal.rsqrt (max (dirX V c b y x * dirX V c b y x + dirY V c b y x * dirY V c b y x) eps2)

/-- The image and the row a block's row `r` lies at. -/
abbrev img2 (t : Fin cfg2.N) : Fin 2 := ⟨t.val / 12, by have := lt_of_lt_of_eq t.isLt N_2; omega⟩
@[inherit_doc img2]
abbrev row2 (t : Fin cfg2.N) (r : Fin 32) : Fin 384 := ⟨32 * (t.val % 12) + r, by have := lt_of_lt_of_eq t.isLt N_2; omega⟩

/-- One point's matrix product, of the slab that holds the bordered image. -/
abbrev prod2 (c : Dev nD) (t : Fin cfg2.N) : FVec Ideal S32x384x96 .f32 :=
  k2_pay10 (F := Ideal) (fun j : S32x384x64.Idx => bordered (X2 V c t) (32 * (t.val % 12) + (0 + (j 0 : Fin 32))) ((j 1 : Fin 384) + 1) (j 2))
        (fun j : S32x384x64.Idx => bordered (X2 V c t) (32 * (t.val % 12) + (1 + (j 0 : Fin 32))) ((j 1 : Fin 384) + 1) (j 2))
        (fun j : S32x384x64.Idx => bordered (X2 V c t) (32 * (t.val % 12) + (2 + (j 0 : Fin 32))) ((j 1 : Fin 384) + 1) (j 2)) (iblk2 V c 3 t)

/-- One point's block of the matrix product, through the clamp: the third layer's values. -/
theorem hid2_block (c : Dev nD) (t : Fin cfg2.N) (r : Fin 32) (x : Fin 384) (o : Fin 32) :
    k2_pay11 (F := Ideal) (prod2 V c t) (iblk2 V c 4 t) (ix3 r x o) = hid2 V c (img2 t) (row2 t r) x o := by
  have ht := lt_of_lt_of_eq t.isLt N_2
  rw [block2 (X2 V c t) _ _ (32 * (t.val % 12)) (by omega)]
  unfold hid2
  congr 1
  · funext p q k
    blk_point [iblk2, idx2 t]
  · blk_point [iblk2, idx2 t]

/-- The first component on one point's block. -/
theorem dirX_block (c : Dev nD) (t : Fin cfg2.N) (r : Fin 32) (x : Fin 384) :
    k2_pay12 (F := Ideal) (prod2 V c t) (iblk2 V c 4 t) (iblk2 V c 5 t) (View.ld (iblk2 V c 7 t) (Rect.unit ![0] ![1] inb_S2_S1_0) (Shape.Idx.first one_numel)) (ix2 r x)
      = dirX V c (img2 t) (row2 t r) x := by
  rw [pay12_at]
  refine congrArg₂ (· + ·) (Finset.sum_congr rfl fun o _ => congrArg₂ (· * ·) (hid2_block V c t r x o) ?_) ?_
  · blk_point [iblk2, idx2 t]
  · refine congrArg (V c main_arg9) (show (win2_7.blk t).view.emb ((Rect.unit (s := S2) ![0] ![1] inb_S2_S1_0).emb (Shape.Idx.first (s := ⟨1, ![1]⟩) one_numel)) = ix1 0 from
      funext fun (a : Fin 1) => ?_)
    obtain rfl : a = 0 := Subsingleton.elim _ _
    apply Fin.ext
    blk_simp [idx2 t]
    rfl

/-- The second component on one point's block. -/
theorem dirY_block (c : Dev nD) (t : Fin cfg2.N) (r : Fin 32) (x : Fin 384) :
    (k2_pay13 (F := Ideal) (prod2 V c t) (iblk2 V c 4 t) (iblk2 V c 6 t) (ix2 r x) : EReal) + (View.ld (iblk2 V c 7 t) (Rect.unit ![1] ![1] inb_S2_S1_1) (Shape.Idx.first one_numel) : EReal)
      = dirY V c (img2 t) (row2 t r) x := by
  rw [pay13_at]
  refine congrArg₂ (· + ·) (Finset.sum_congr rfl fun o _ => congrArg₂ (· * ·) (hid2_block V c t r x o) ?_) ?_
  · blk_point [iblk2, idx2 t]
  · refine congrArg (V c main_arg9) (show (win2_7.blk t).view.emb ((Rect.unit (s := S2) ![1] ![1] inb_S2_S1_1).emb (Shape.Idx.first (s := ⟨1, ![1]⟩) one_numel)) = ix1 1 from
      funext fun (a : Fin 1) => ?_)
    obtain rfl : a = 0 := Subsingleton.elim _ _
    apply Fin.ext
    blk_simp [idx2 t]
    rfl

/-- The first direction array when the grid has run. -/
theorem arr2x (c : Dev nD) : (dat2 V c).arrAt 8 cfg2.N = fun i : S2x384x384.Idx =>
    dirX V c (i 0) (i 1) (i 2) * invLen V c (i 0) (i 1) (i 2) := by
  refine (dat2 V c).arrAt_eq_of_covers 8 _ (by decide +kernel) fun t hf (y : S1x32x384.Idx) => ?_
  blk_simp
  rw [after2_8, outs2]
  obtain ⟨z, r, x, rfl⟩ : ∃ (z : Fin 1) (r : Fin 32) (x : Fin 384), y = ix3 z r x := ⟨_, _, _, eq_ix3 y⟩
  obtain rfl : z = 0 := Subsingleton.elim _ _
  have e0 : (win2_8.blk t).view.emb (ix3 0 r x) 0 = img2 t := Fin.ext (by blk_simp [idx2 t]; rfl)
  have e1 : (win2_8.blk t).view.emb (ix3 0 r x) 1 = row2 t r := Fin.ext (by blk_simp [idx2 t]; exact congrArg (· + (r : ℕ)) (Nat.mul_comm _ _))
  have e2 : (win2_8.blk t).view.emb (ix3 0 r x) 2 = x := Fin.ext (by blk_simp [idx2 t])
  rw [e0, e1, e2]
  refine (pay3_at _ _ _ r x).trans ?_
  rw [dirX_block, dirY_block]
  rfl

/-- The second direction array when the grid has run. -/
theorem arr2y (c : Dev nD) : (dat2 V c).arrAt 9 cfg2.N = fun i : S2x384x384.Idx =>
    dirY V c (i 0) (i 1) (i 2) * invLen V c (i 0) (i 1) (i 2) := by
  refine (dat2 V c).arrAt_eq_of_covers 9 _ (by decide +kernel) fun t hf (y : S1x32x384.Idx) => ?_
  blk_simp
  rw [after2_9, outs2]
  obtain ⟨z, r, x, rfl⟩ : ∃ (z : Fin 1) (r : Fin 32) (x : Fin 384), y = ix3 z r x := ⟨_, _, _, eq_ix3 y⟩
  obtain rfl : z = 0 := Subsingleton.elim _ _
  have e0 : (win2_9.blk t).view.emb (ix3 0 r x) 0 = img2 t := Fin.ext (by blk_simp [idx2 t]; rfl)
  have e1 : (win2_9.blk t).view.emb (ix3 0 r x) 1 = row2 t r := Fin.ext (by blk_simp [idx2 t]; exact congrArg (· + (r : ℕ)) (Nat.mul_comm _ _))
  have e2 : (win2_9.blk t).view.emb (ix3 0 r x) 2 = x := Fin.ext (by blk_simp [idx2 t])
  rw [e0, e1, e2]
  refine (pay4_at _ _ _ r x).trans ?_
  rw [dirX_block, dirY_block]
  rfl

end Cert.KernelIdeal.Val
-- ==== Proof.KernelField.lean ====
/- The kernel's first result: the direction field as a function of the arguments, through the three convolution launches. -/
module

public import proofs.«01_k».proof.Proof.Region0Val
public import proofs.«01_k».proof.Proof.Region1Val
public import proofs.«01_k».proof.Proof.Region2Val
public import proofs.«01_k».proof.Proof.Gen.KernelIdeal.Frame

@[expose] public section

set_option maxRecDepth 16384

noncomputable section

namespace Cert.KernelIdeal.Val

open Idealize.ShloMosaic Idealize.ShloMosaic.TcCoe Idealize.SL.Sem
open Cert.KernelIdeal Cert.KernelIdeal.Gen Cert.Spec

variable (m : (ℓ : Loc nD τ sig) → Buf (Elt Ideal) ℓ) (ρ : Dev nD → PrngReg) (c : Dev nD)

/-- What an argument holds at launch. -/
abbrev arg (r : Ref sig .tc) := m ((c : Thread nD τ).loc r)

/-- The first launch reads the images channel last. -/
theorem entry_image (b : Fin 2) (y x : Fin 384) (k : Fin 96) :
    V1 m ρ c main_v1 (ix4 b y x k) = arg m c main_arg0 (ix4 b k y x) := by
  unfold V1
  after_results
  pointwise

/-- Two reads of a four-axis array at equal coordinates. -/
theorem read_congr {α : Type} {a b d e : ℕ} (f : (⟨4, ![a, b, d, e]⟩ : Shape).Idx → α) {i i' : Fin a} {j j' : Fin b} {k k' : Fin d} {l l' : Fin e}
    (h1 : (i : ℕ) = i') (h2 : (j : ℕ) = j') (h3 : (k : ℕ) = k') (h4 : (l : ℕ) = l') : f (ix4 i j k l) = f (ix4 i' j' k' l') := by
  rw [Fin.ext h1, Fin.ext h2, Fin.ext h3, Fin.ext h4]

/-- The first launch's weights: row blocks by the stencil's rows, column blocks by its columns. -/
theorem entry_w1 (p q : Fin 3) (k : Fin 96) (o : Fin 64) :
    V1 m ρ c main_v4 (ix2 ⟨96 * p + k, by omega⟩ ⟨64 * q + o, by omega⟩) = arg m c main_arg2 (ix4 o k p q) := by
  unfold V1
  after_results
  pointwise
  exact read_congr (W0 m ρ c (Proc.devRef .tc main_arg2)) (by simp only; omega) (by simp only; omega) (by simp only; omega) (by simp only; omega)

/-- The first launch's biases. -/
theorem entry_b1 (o : Fin 64) : V1 m ρ c main_v5 (ix2 0 o) = arg m c main_arg3 (ix1 o) := by
  unfold V1
  after_results
  pointwise

/-- The second launch's weights. -/
theorem entry_w2 (p q : Fin 3) (k : Fin 64) (o : Fin 64) :
    V3 m ρ c main_v9 (ix2 ⟨64 * p + k, by omega⟩ ⟨64 * q + o, by omega⟩) = arg m c main_arg4 (ix4 o k p q) := by
  unfold V3
  after_results
  rw [W2_args m ρ c main_arg4 (by decide)]
  pointwise
  exact read_congr (arg m c main_arg4) (by simp only; omega) (by simp only; omega) (by simp only; omega) (by simp only; omega)

/-- The second launch's biases. -/
theorem entry_b2 (o : Fin 64) : V3 m ρ c main_v10 (ix2 0 o) = arg m c main_arg5 (ix1 o) := by
  unfold V3
  after_results
  rw [W2_args m ρ c main_arg5 (by decide)]
  pointwise

/-- The third launch's weights. -/
theorem entry_w3 (p q : Fin 3) (k : Fin 64) (o : Fin 32) :
    V5 m ρ c main_v17 (ix2 ⟨64 * p + k, by omega⟩ ⟨32 * q + o, by omega⟩) = arg m c main_arg6 (ix4 o k p q) := by
  unfold V5
  after_results
  rw [W4_args m ρ c main_arg6 (by decide)]
  pointwise
  exact read_congr (arg m c main_arg6) (by simp only; omega) (by simp only; omega) (by simp only; omega) (by simp only; omega)

/-- The third launch's biases. -/
theorem entry_b3 (o : Fin 32) : V5 m ρ c main_v18 (ix2 0 o) = arg m c main_arg7 (ix1 o) := by
  unfold V5
  after_results
  rw [W4_args m ρ c main_arg7 (by decide)]
  pointwise

/-- The first row of the direction weights. -/
theorem entry_w4x (o : Fin 32) : V5 m ρ c main_v19 (ix2 0 o) = arg m c main_arg8 (ix4 0 o 0 0) := by
  unfold V5
  after_results
  rw [W4_args m ρ c main_arg8 (by decide)]
  pointwise

/-- The second row of the direction weights. -/
theorem entry_w4y (o : Fin 32) : V5 m ρ c main_v20 (ix2 0 o) = arg m c main_arg8 (ix4 1 o 0 0) := by
  unfold V5
  after_results
  rw [W4_args m ρ c main_arg8 (by decide)]
  pointwise

/-- The direction field before normalising, from the arguments. -/
def fieldK : Fin 2 → Fin 384 → Fin 384 → Fin 2 → EReal :=
  field (fun n y x k => arg m c main_arg0 (ix4 n k y x)) (fun o i j k => arg m c main_arg2 (ix4 o k i j)) (fun o => arg m c main_arg3 (ix1 o))
    (fun o i j k => arg m c main_arg4 (ix4 o k i j)) (fun o => arg m c main_arg5 (ix1 o))
    (fun o i j k => arg m c main_arg6 (ix4 o k i j)) (fun o => arg m c main_arg7 (ix1 o))
    (fun k o => arg m c main_arg8 (ix4 k o 0 0)) (fun k => arg m c main_arg9 (ix1 k))

/-- The first layer's features, from the arguments. -/
abbrev feat1 : Fin 2 → Image 64 :=
  layer (fun n y x k => arg m c main_arg0 (ix4 n k y x)) (fun o i j k => arg m c main_arg2 (ix4 o k i j)) (fun o => arg m c main_arg3 (ix1 o))

/-- The second layer's features, from the arguments. -/
abbrev feat2 : Fin 2 → Image 64 :=
  layer (feat1 m c) (fun o i j k => arg m c main_arg4 (ix4 o k i j)) (fun o => arg m c main_arg5 (ix1 o))

/-- Convolutions of equal images by equal weights with equal biases. -/
theorem conv_congr {C : ℕ} {X X' : Image C} {w w' : Fin 3 → Fin 3 → Fin C → EReal} {b b' : EReal} (hX : ∀ y x k, X y x k = X' y x k)
    (hw : ∀ p q k, w p q k = w' p q k) (hb : b = b') (y x : Fin 384) : convAt X w b y x = convAt X' w' b' y x := by
  have h1 : X = X' := by funext y x k; exact hX y x k
  have h2 : w = w' := by funext p q k; exact hw p q k
  rw [h1, h2, hb]

/-- The second launch reads the first layer's features. -/
theorem entry_feat1 (b : Fin 2) (y x : Fin 384) (o : Fin 64) : V3 m ρ c main_v6 (ix4 b y x o) = feat1 m c b y x o := by
  refine (congrFun ((W3_of m ρ c main_v6 (by decide)).trans ((W2_arr m ρ c 5).trans (arr0 (V1 m ρ) c))) _).trans ?_
  show out0 (V1 m ρ) c b y x o = _
  exact conv_congr (entry_image m ρ c b) (fun p q k => entry_w1 m ρ c p q k o) (entry_b1 m ρ c o) y x

/-- The third launch reads the second layer's features. -/
theorem entry_feat2 (b : Fin 2) (y x : Fin 384) (o : Fin 64) : V5 m ρ c main_v11 (ix4 b y x o) = feat2 m c b y x o := by
  refine (congrFun ((W5_of m ρ c main_v11 (by decide)).trans ((W4_arr m ρ c 5).trans (arr1 (V3 m ρ) c))) _).trans ?_
  show out1 (V3 m ρ) c b y x o = _
  exact conv_congr (entry_feat1 m ρ c b) (fun p q k => entry_w2 m ρ c p q k o) (entry_b2 m ρ c o) y x

/-- The third layer's features inside the third launch. -/
theorem hid2_eq (b : Fin 2) (y x : Fin 384) (o : Fin 32) : hid2 (V5 m ρ) c b y x o
    = layer (feat2 m c) (fun o i j k => arg m c main_arg6 (ix4 o k i j)) (fun o => arg m c main_arg7 (ix1 o)) b y x o := by
  exact conv_congr (entry_feat2 m ρ c b) (fun p q k => entry_w3 m ρ c p q k o) (entry_b3 m ρ c o) y x

/-- The first component before normalising. -/
theorem dirX_eq (b : Fin 2) (y x : Fin 384) : dirX (V5 m ρ) c b y x = fieldK m c b y x 0 := by
  have h9 : V5 m ρ c main_arg9 = arg m c main_arg9 := W5_args m ρ c main_arg9 (by decide)
  unfold dirX fieldK field direction
  rw [h9]
  exact congrArg (· + _) (Finset.sum_congr rfl fun o _ => congrArg₂ (· * ·) (hid2_eq m ρ c b y x o) (entry_w4x m ρ c o))

/-- The second component before normalising. -/
theorem dirY_eq (b : Fin 2) (y x : Fin 384) : dirY (V5 m ρ) c b y x = fieldK m c b y x 1 := by
  have h9 : V5 m ρ c main_arg9 = arg m c main_arg9 := W5_args m ρ c main_arg9 (by decide)
  unfold dirY fieldK field direction
  rw [h9]
  exact congrArg (· + _) (Finset.sum_congr rfl fun o _ => congrArg₂ (· * ·) (hid2_eq m ρ c b y x o) (entry_w4y m ρ c o))

/-- The kernel's normalised component: multiplied by the reciprocal length, bounded above. -/
def unitK (d d0 d1 : EReal) : EReal := d * Ideal.rsqrt (max (d0 * d0 + d1 * d1) eps2)

/-- The two normalised components as the third launch leaves them. -/
theorem left_x (b : Fin 2) (y x : Fin 384) : W6 m ρ c (Proc.devRef .tc main_v21_0) (ix3 b y x)
    = unitK (fieldK m c b y x 0) (fieldK m c b y x 0) (fieldK m c b y x 1) := by
  refine (congrFun ((W6_arr m ρ c 8).trans (arr2x (V5 m ρ) c)) _).trans ?_
  show dirX (V5 m ρ) c b y x * invLen (V5 m ρ) c b y x = _
  unfold invLen unitK
  rw [dirX_eq, dirY_eq]

@[inherit_doc left_x]
theorem left_y (b : Fin 2) (y x : Fin 384) : W6 m ρ c (Proc.devRef .tc main_v21_1) (ix3 b y x)
    = unitK (fieldK m c b y x 1) (fieldK m c b y x 0) (fieldK m c b y x 1) := by
  refine (congrFun ((W6_arr m ρ c 9).trans (arr2y (V5 m ρ) c)) _).trans ?_
  show dirY (V5 m ρ) c b y x * invLen (V5 m ρ) c b y x = _
  unfold invLen unitK
  rw [dirX_eq, dirY_eq]

/-- The first result at the end of the run. -/
theorem result1 (b k : Fin 2) (y x : Fin 384) : W8 m ρ c (Proc.devRef .tc main_v24) (ix4 b k y x)
    = unitK (fieldK m c b y x k) (fieldK m c b y x 0) (fieldK m c b y x 1) := by
  have h : W8 m ρ c (Proc.devRef .tc main_v24) = W7 m ρ c (Proc.devRef .tc main_v24) := W8_of m ρ c main_v24 (by decide)
  rw [h]
  have hx := left_x m ρ c b y x
  have hy := left_y m ρ c b y x
  unfold W7
  after_results
  obtain rfl | rfl : k = 0 ∨ k = 1 := by omega
  · rw [← hx]; pointwise
  · rw [← hy]; pointwise

end Cert.KernelIdeal.Val
-- ==== Proof.Unit.lean ====
/- Normalising a vector of the plane over extended reals: dividing by its length bounded below is multiplying by the
   reciprocal root of its squared length bounded below by the square of the bound. -/
module

public import Idealize.ShloMosaic.Lib.Pointwise

@[expose] public section

noncomputable section

namespace Cert.Spec

open Idealize.ShloMosaic

/-- The bound below a length: the single-precision number nearest 10^-12, a ratio of whole numbers. -/
def epsR : ℝ := 2305843 / 2305843009213693952

/-- The square of the bound as the kernel names it. -/
theorem epsR_sq : epsR * epsR = (5316911940649 / 5316911983139663491615228241121378304 : ℝ) := by
  unfold epsR; norm_num

/-- The reference's constant is that number. -/
theorem epsR_bits : Ideal.ofBits .f32 0x2B8CBCCC#32 = (epsR : EReal) := by
  unfold epsR
  simp [Ideal.ofBits, Ideal.ieee, -EReal.coe_mul]
  norm_num

/-- The bound is above zero. -/
theorem epsR_pos : 0 < epsR := by unfold epsR; norm_num

/-- A square is an infinity or a real that is not below zero. -/
theorem square_cases (d : EReal) : d * d = ⊤ ∨ ∃ r : ℝ, d = r := by
  induction d with
  | bot => exact Or.inl EReal.bot_mul_bot
  | top => exact Or.inl EReal.top_mul_top
  | coe r => exact Or.inr ⟨r, rfl⟩

/-- A squared length is infinite or both components are real. -/
theorem sum_cases (d0 d1 : EReal) : d0 * d0 + d1 * d1 = ⊤ ∨ ∃ r0 r1 : ℝ, d0 = r0 ∧ d1 = r1 := by
  rcases square_cases d0 with h0 | ⟨r0, rfl⟩
  · left
    rw [h0]
    refine EReal.top_add_of_ne_bot ?_
    rcases square_cases d1 with h1 | ⟨r1, rfl⟩
    · rw [h1]; exact top_ne_bot
    · rw [← EReal.coe_mul]; exact EReal.coe_ne_bot _
  · rcases square_cases d1 with h1 | ⟨r1, rfl⟩
    · left
      rw [h1, ← EReal.coe_mul]
      exact EReal.coe_add_top _
    · exact Or.inr ⟨r0, r1, rfl, rfl⟩

/-- The larger of two reals. -/
theorem coe_larger (a b : ℝ) : ((max a b : ℝ) : EReal) = max (a : EReal) b := EReal.coe_strictMono.monotone.map_max

/-- The reciprocal root of a real above zero. -/
theorem rsqrt_pos {r : ℝ} (h : 0 < r) : Ideal.rsqrt (r : EReal) = ((Real.sqrt r)⁻¹ : ℝ) := by
  show (if r < 0 then (⊥ : EReal) else if r = 0 then ⊤ else ((Real.sqrt r)⁻¹ : ℝ)) = _
  rw [if_neg (not_lt.mpr h.le), if_neg h.ne']

/-- The root of a real not below zero. -/
theorem sqrt_nonneg {r : ℝ} (h : 0 ≤ r) : Ideal.sqrt (r : EReal) = (Real.sqrt r : ℝ) := by
  show (if r < 0 then (⊥ : EReal) else (Real.sqrt r : ℝ)) = _
  rw [if_neg (not_lt.mpr h)]

/-- The length of a real vector, bounded below by bounding its square below by the square. -/
theorem length_real (r0 r1 : ℝ) :
    Real.sqrt (max (r0 * r0 + r1 * r1) (epsR * epsR)) = max (Real.sqrt (r0 * r0 + r1 * r1)) epsR := by
  have h : Monotone Real.sqrt := fun _ _ h => Real.sqrt_le_sqrt h
  rw [h.map_max, Real.sqrt_mul_self epsR_pos.le]

/-- The bounded square is above zero. -/
theorem bounded_pos (r0 r1 : ℝ) : 0 < max (r0 * r0 + r1 * r1) (epsR * epsR) :=
  lt_max_of_lt_right (mul_pos epsR_pos epsR_pos)

/-- The two normalisations agree. -/
theorem normalised (d d0 d1 : EReal) : d * Ideal.rsqrt (max (d0 * d0 + d1 * d1) ((epsR * epsR : ℝ) : EReal))
    = Ideal.div d (max (Ideal.sqrt (d0 * d0 + d1 * d1)) (epsR : EReal)) := by
  rcases sum_cases d0 d1 with h | ⟨r0, r1, rfl, rfl⟩
  · rw [h, max_eq_left le_top]
    show d * 0 = Ideal.div d (max ⊤ _)
    rw [max_eq_left le_top]
    unfold Ideal.div
    rw [if_neg EReal.top_ne_zero, EReal.inv_top]
  · have hs : 0 ≤ r0 * r0 + r1 * r1 := add_nonneg (mul_self_nonneg r0) (mul_self_nonneg r1)
    have hm : max (Real.sqrt (r0 * r0 + r1 * r1)) epsR ≠ 0 := (lt_max_of_lt_right epsR_pos).ne'
    rw [← EReal.coe_mul, ← EReal.coe_mul, ← EReal.coe_add, ← coe_larger, rsqrt_pos (bounded_pos r0 r1), sqrt_nonneg hs, ← coe_larger,
      Ideal.div_coe hm, length_real, one_div]

/-- A component against the length: the normalised first component is a real between -1 and 1. -/
theorem normalised_small (d0 d1 : EReal) :
    ∃ r : ℝ, |r| ≤ 1 ∧ d0 * Ideal.rsqrt (max (d0 * d0 + d1 * d1) ((epsR * epsR : ℝ) : EReal)) = r := by
  rcases sum_cases d0 d1 with h | ⟨r0, r1, rfl, rfl⟩
  · refine ⟨0, by simp, ?_⟩
    rw [h, max_eq_left le_top]
    show d0 * 0 = _
    simp
  · refine ⟨r0 * (Real.sqrt (max (r0 * r0 + r1 * r1) (epsR * epsR)))⁻¹, ?_, ?_⟩
    · have hp := Real.sqrt_pos.mpr (bounded_pos r0 r1)
      rw [abs_mul, abs_of_pos (inv_pos.mpr hp), mul_inv_le_iff₀ hp, one_mul]
      refine Real.abs_le_sqrt ?_
      rw [pow_two]
      exact le_max_of_le_left (le_add_of_nonneg_right (mul_self_nonneg r1))
    · rw [← EReal.coe_mul, ← EReal.coe_mul, ← EReal.coe_add, ← coe_larger, rsqrt_pos (bounded_pos r0 r1), ← EReal.coe_mul]

end Cert.Spec
-- ==== Proof.Centre.lean ====
/- The kernel's second result: the centres as a function of the field and the labels. -/
module

public import proofs.«01_k».proof.Proof.Region3Val
public import proofs.«01_k».proof.Proof.KernelField
public import proofs.«01_k».proof.Proof.Unit
public import proofs.«01_k».proof.Proof.Votes

@[expose] public section

set_option maxRecDepth 16384

noncomputable section

namespace Cert.KernelIdeal.Val

open Idealize.ShloMosaic Idealize.ShloMosaic.TcCoe Idealize.SL.Sem
open Cert.KernelIdeal Cert.KernelIdeal.Gen Cert.Spec
open Idealize.ShloMosaic.Pipeline (Dat Cfg Window)

/-- A small word as a real number. -/
theorem sitofp_small (p : Fin 384) : (FloatOps.sitofp (F := Ideal) .f32 (BitVec.ofNat 32 p) : EReal) = (((p : ℕ) : ℝ) : EReal) := by
  show (((BitVec.ofNat 32 p).toInt : ℝ) : EReal) = _
  rw [BitVec.toInt_eq_toNat_of_lt (by rw [BitVec.toNat_ofNat]; omega), BitVec.toNat_ofNat, Nat.mod_eq_of_lt (by omega)]
  norm_cast

/-- The kernel's upper edge is 383. -/
theorem edge_bits : Ideal.ofBits .f32 0x43BF8000#32 = ((383 : ℝ) : EReal) := by
  simp [Ideal.ofBits, Ideal.ieee, -EReal.coe_mul]
  norm_num

/-- The kernel's lower edge is 0. -/
theorem floor_bits : Ideal.ofBits .f32 0x00000000#32 = ((0 : ℝ) : EReal) := by
  simp [Ideal.ofBits, Ideal.ieee, -EReal.coe_mul]

/-- How far a pixel's vote lies from it along the columns. -/
theorem shift_x (v : FVec Ideal S1x384x384 .f32) (y x : Fin 384) (r : ℝ) (h : (v (ix3 0 y x) : EReal) = (r : EReal)) :
    k3_pay2 (F := Ideal) v (ix2 y x) = BitVec.ofNat 32 (cellOf x r) - BitVec.ofNat 32 x := by
  rw [← fptosi_kept x r]
  unfold kept
  rw [← h, ← edge_bits, ← floor_bits, ← sitofp_small x]
  pointwise [k3_pay2]
  rfl

/-- How far a pixel's vote lies from it along the rows. -/
theorem shift_y (v : FVec Ideal S1x384x384 .f32) (y x : Fin 384) (r : ℝ) (h : (v (ix3 0 y x) : EReal) = (r : EReal)) :
    k3_pay3 (F := Ideal) v (ix2 y x) = BitVec.ofNat 32 (cellOf y r) - BitVec.ofNat 32 y := by
  rw [← fptosi_kept y r]
  unfold kept
  rw [← h, ← edge_bits, ← floor_bits, ← sitofp_small y]
  pointwise [k3_pay3]
  rfl

variable (V : (c : Dev nD) → (b : Ref sig .tc) → Buf (Elt Ideal) ((c : Thread nD τ).loc b))

/-- The grid point of an image. -/
def pt3 (n : Fin 2) : Fin cfg3.N := ⟨n, by have : cfg3.N = 2 := by decide +kernel
                                           omega⟩

/-- The centres' array when the grid has run. -/
theorem arr3 (c : Dev nD) : (dat3 V c).arrAt 3 cfg3.N = fun i : S2x2x2.Idx => stored3 V c (pt3 (i 0)) (i 1) (i 2) := by
  refine (dat3 V c).arrAt_eq_of_covers 3 _ (by decide +kernel) fun t hf (y : S1x2x2.Idx) => ?_
  blk_simp
  rw [after3_3]
  obtain ⟨z, k, e, rfl⟩ : ∃ (z : Fin 1) (k e : Fin 2), y = ix3 z k e := ⟨_, _, _, eq_ix3 y⟩
  obtain rfl : z = 0 := Subsingleton.elim _ _
  have e0 : pt3 ((win3_3.blk t).view.emb (ix3 0 k e) 0) = t := Fin.ext (by show ((win3_3.blk t).view.emb (ix3 0 k e) 0).val = _; blk_simp [idx3 t]; rfl)
  have e1 : (win3_3.blk t).view.emb (ix3 0 k e) 1 = k := Fin.ext (by blk_simp [idx3 t])
  have e2 : (win3_3.blk t).view.emb (ix3 0 k e) 2 = e := Fin.ext (by blk_simp [idx3 t])
  rw [e0, e1, e2]
  exact outs3 V c t k e

/-- The label block at a grid point is its image's labels. -/
theorem label_at (c : Dev nD) (n : Fin 2) (y x : Fin 384) : k3_pay1 (F := Ideal) (iblk3 V c 0 (pt3 n)) (ix2 y x) = V c main_arg1 (ix3 n y x) := by
  have h : iblk3 V c 0 (pt3 n) (ix3 0 y x) = V c main_arg1 (ix3 n y x) := by
    blk_point [iblk3, idx3 (pt3 n)]
    rfl
  rw [← h]
  pointwise [k3_pay1]

/-- The word the kernel stores for coordinate `e` of class `k`'s centre in image `n`. -/
theorem stored_at (c : Dev nD) (n k e : Fin 2) (fx fy : Fin 384 → Fin 384 → ℝ)
    (hx : ∀ y x, |fx y x| ≤ 1 ∧ (V c main_v21_0 (ix3 n y x) : EReal) = (fx y x : EReal))
    (hy : ∀ y x, |fy y x| ≤ 1 ∧ (V c main_v21_1 (ix3 n y x) : EReal) = (fy y x : EReal)) (w : BitVec 32) (hw : w = if k = 0 then 1#32 else 2#32) :
    ∃ M m, Peak (fun i => scattered (fun y x => V c main_arg1 (ix3 n y x) = w) (fun y x => cellOf y (fy y x)) (fun y x => cellOf x (fx y x)) (rowOf i) (colOf i)) M m
      ∧ ∀ e : Fin 2, stored3 V c (pt3 n) k e = coordAt M m e := by
  have hbx : ∀ y x, (iblk3 V c 1 (pt3 n) (ix3 0 y x) : EReal) = (fx y x : EReal) := fun y x => by
    rw [← (hx y x).2]
    blk_point [iblk3, idx3 (pt3 n)]
    rfl
  have hby : ∀ y x, (iblk3 V c 2 (pt3 n) (ix3 0 y x) : EReal) = (fy y x : EReal) := fun y x => by
    rw [← (hy y x).2]
    blk_point [iblk3, idx3 (pt3 n)]
    rfl
  obtain ⟨m, hm, hf⟩ := peak_of (votes3 V c (pt3 n) w)
  refine ⟨mostOf (votes3 V c (pt3 n) w), m, ?_, fun e => ?_⟩
  · rw [show (fun i : Fin 147456 => scattered (fun y x => V c main_arg1 (ix3 n y x) = w) (fun y x => cellOf y (fy y x)) (fun y x => cellOf x (fx y x)) (rowOf i) (colOf i))
      = fun i => (votes3 V c (pt3 n) w (ix2 (rowOf i) (colOf i)) : EReal) from funext fun i => ?_]
    · exact hm
    · refine ((hough_at _ _ _ w (fun y x => cellOf y (fy y x)) (fun y x => cellOf x (fx y x)) (fun y x => (cellOf_near y _ (hy y x).1).1)
        (fun y x => (cellOf_near x _ (hx y x).1).1) (fun y x => shift_x _ y x _ (hbx y x)) (fun y x => shift_y _ y x _ (hby y x)) _ _).trans ?_).symm
      rw [gathered_eq_scattered _ _ _ (fun y x => cellOf_near y _ (hy y x).1) (fun y x => cellOf_near x _ (hx y x).1)]
      simp only [label_at]
  · subst hw
    unfold stored3
    rw [hf]
    obtain rfl | rfl : e = 0 ∨ e = 1 := by omega
    · rw [if_pos rfl]; exact storedCol_eq _ m
    · rw [if_neg (by decide)]; exact storedRow_eq _ m

end Cert.KernelIdeal.Val
-- ==== Proof.KernelRun.lean ====
/- The kernel's run, with every buffer at the contents the last boundary of its regions leaves. -/
module

public import proofs.«01_k».proof.Proof.Gen.KernelIdeal.Frame
public import Idealize.ShloMosaic.Lib.StableHlo.RunHlo

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- The kernel ends with each of its buffers at the last boundary's contents. -/
theorem final : θ_run defs (onTc (τ := τ) (main (F := Ideal))) ⟨m, fun _ => 0, ρ⟩ (fun r => ∀ c : Dev nD, ∀ b ∈ Pipeline.ucRefs τ sig,
    r.2.mem (((c : Thread nD τ)).1, b) = W8 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h _ => h)

/-- The results and the arguments at the end of the run. -/
theorem results : θ_run defs (onTc (τ := τ) (main (F := Ideal))) ⟨m, fun _ => 0, ρ⟩ (fun r => ∀ c : Dev nD,
    r.2.mem ((c.tc : Thread nD τ).loc main_v24) = W8 m ρ c (Proc.devRef .tc main_v24)
    ∧ r.2.mem ((c.tc : Thread nD τ).loc main_v25) = W8 m ρ c (Proc.devRef .tc main_v25)
    ∧ ∀ a ∈ argRefs, r.2.mem ((c.tc : Thread nD τ).loc a) = m ((c.tc : Thread nD τ).loc a)) :=
  θ_run_mono (final m ρ) fun r h c => ⟨h c _ (mem_uc main_v24 (by decide)), h c _ (mem_uc main_v25 (by decide)),
    fun a ha => (h c _ (mem_uc a (by revert a; decide))).trans (W8_args m ρ c a ha)⟩

end Cert.KernelIdeal.Val
-- ==== Proof.RefTally.lean ====
/- The reference's votes at a cell, and the first cell with the most votes. -/
module

public import proofs.«01_k».proof.Proof.RefVote
public import proofs.«01_k».proof.Proof.Largest
public import Idealize.ShloMosaic.Lib.Routing.Ops

@[expose] public section

set_option maxRecDepth 16384

noncomputable section

namespace Cert.ReferenceIdeal.Val

open Idealize.ShloMosaic Idealize.ShloMosaic.TcCoe Idealize.SL.Sem
open Cert.ReferenceIdeal Cert.ReferenceIdeal.Gen Cert.Spec

/-- A small word read signed is its number. -/
theorem toInt_small (c : ℕ) (h : c < 147456) : (BitVec.ofNat 32 c).toInt = (c : ℤ) := by
  rw [BitVec.toInt_eq_toNat_of_lt (by rw [BitVec.toNat_ofNat]; omega), BitVec.toNat_ofNat]
  omega

/-- The votes at a cell: the weights of the pixels whose cell it is. -/
theorem tally_at (cells : IVec S147456 32) (c : Fin 147456 → ℕ) (hlt : ∀ n, c n < 147456)
    (hc : ∀ n, cells (ix1 n) = BitVec.ofNat 32 (c n)) (w : FVec Ideal S147456 .f32) (p : Fin 147456) :
    tally cells w (ix1 p) = ∑ n : Fin 147456, if c n = p then (w (ix1 n) : EReal) else 0 := by
  unfold tally tallyFrom Host.scatterAdd
  show Ideal.hostScatterAdd _ blank _ w (ix1 p) = _
  unfold Ideal.hostScatterAdd
  have hz : blank (ix1 p) = (0 : EReal) := by unfold blank; pointwise
  rw [hz, zero_add, Finset.sum_filter, sum_idx1]
  refine Finset.sum_congr rfl fun n _ => if_congr ?_ rfl rfl
  refine (Idealize.ShloMosaic.Routing.scatter_lands_signed scatter_S147456_S147456x1_S147456_n_0_0_1 rfl rfl rfl _ n p).trans ?_
  have hr : broadcastInDim S147456x1 ![0] bcast_S147456_S147456x1_0
      (select (cmpi .slt cells (broadcastInDim S147456 ![] bcast_S_S147456 (constantI S_ 32 0#32)))
        (addi cells (broadcastInDim S147456 ![] bcast_S_S147456 (constantI S_ 32 147456#32))) cells) (ix2 n 0) = BitVec.ofNat 32 (c n) := by
    pointwise
    have hn : (BitVec.ofNat 32 (c n)).slt 0#32 = false := by
      rw [Bool.eq_false_iff, ne_eq, BitVec.slt_iff_toInt_lt, toInt_small _ (hlt n)]; simp
    rw [hc]
    unfold IntOp.cmpi Scalar.select
    simp [hn]
  exact (Eq.congr_left ((congrArg BitVec.toInt hr).trans (toInt_small _ (hlt n)))).trans Nat.cast_inj

/-- The reference's body of the first-largest search is the better of two places. -/
theorem reducer_better (a b : EReal × BitVec 32) : reducer_argmax_f32_i32 (F := Ideal) a b = better a b := by
  obtain ⟨a1, a2⟩ := a
  obtain ⟨b1, b2⟩ := b
  unfold reducer_argmax_f32_i32 better
  simp only [Ideal.cmpf_def, Ideal.cmp, IntOp.ori, IntOp.andi, IntOp.cmpi, Scalar.select]
  rcases lt_trichotomy a1 b1 with h | h | h
  · simp [h, h.not_gt, h.ne]
  · subst h
    by_cases h2 : a2.slt b2 <;> simp [h2]
  · simp [h, h.not_gt, h.ne']

/-- The places of a table, listed by a number equal to its length. -/
theorem list_cast {N K : ℕ} (h : K = N) (V : Fin N → EReal) : (List.finRange K).map (fun n => (V (n.cast h), BitVec.ofNat 32 (n.cast h : Fin N)))
    = (List.finRange N).map fun n => (V n, BitVec.ofNat 32 n) := by
  subst h; rfl

/-- The first place with the most votes, as the reference finds it. -/
theorem first_peak (V : FVec Ideal S147456 .f32) : ∃ m : Fin 147456, Peak (fun n => (V (ix1 n) : EReal)) (V (ix1 m)) m
    ∧ ∀ j, first V j = BitVec.ofNat 32 m := by
  obtain ⟨m, hm, hf⟩ := better_all (N := 147456) (by decide) (by decide) fun n => (V (ix1 n) : EReal)
  refine ⟨m, hm, fun j => ?_⟩
  unfold first
  rw [Ideal.argReduce_eq_reduce2, Host.reduce2_eq_foldl_fiber]
  have hl : Host.argReduceFiber V (iotaInDim S147456 32 0) reducesTo_S147456_S_d0 j
      = (List.finRange 147456).map fun n => ((V (ix1 n) : EReal), BitVec.ofNat 32 n) := by
    rw [← list_cast (Routing.numel1 147456)]
    unfold Host.argReduceFiber
    rw [List.filter_eq_self.mpr fun n _ => decide_eq_true (Subsingleton.elim _ _)]
    refine List.map_congr_left fun n _ => ?_
    have hs : S147456.rowMajor.symm n = ix1 (n.cast (Routing.numel1 147456)) := Routing.symm1 n
    rw [hs]
    rfl
  rw [hl, show reducer_argmax_f32_i32 (F := Ideal) = better from funext fun a => funext fun b => reducer_better a b]
  have hb : (constant (F := Ideal) S_ .f32 0xFF800000#32 (Shape.Idx.first h_S_) : EReal) = ⊥ := by
    show Ideal.ofBits .f32 0xFF800000#32 = ⊥
    simp [Ideal.ofBits, Ideal.ieee]
  rw [hb]
  exact congrArg Prod.snd hf

/-- The most votes, as the reference finds them. -/
theorem most_peak (V : FVec Ideal S147456 .f32) (m : Fin 147456) (hm : Peak (fun n => (V (ix1 n) : EReal)) (V (ix1 m)) m) (j : S_.Idx) :
    Host.reduce FloatOps.maximumf V (constant (F := Ideal) S_ .f32 0xFF800000#32) reducesTo_S147456_S_d0 h_S_ j = V (ix1 m) := by
  rw [Host.reduce_eq_fold, Finset.filter_true_of_mem fun i _ => Subsingleton.elim _ _]
  have hb : (constant (F := Ideal) S_ .f32 0xFF800000#32 (Shape.Idx.first h_S_) : EReal) = ⊥ := by
    show Ideal.ofBits .f32 0xFF800000#32 = ⊥
    simp [Ideal.ofBits, Ideal.ieee]
  rw [hb]
  exact fold_largest (ι := S147456.Idx) V _ (fun i => by rw [eq_ix1 i]; exact hm.top _) ⟨_, rfl⟩

/-- The comparison of two scalars that are known. -/
theorem above_at (x y : FVec Ideal S_ .f32) (j : S_.Idx) (a b : EReal) (hx : x j = a) (hy : y j = b) :
    cmpf .ogt x y j = BitVec.ofBool (decide (b < a)) := by
  show Ideal.cmp .ogt (x j) (y j) = _
  rw [hx, hy]
  exact Ideal.cmp_ogt _ _

/-- The centre of a table of votes: the column and the row of the first cell with the most votes. -/
theorem crown_at (V : FVec Ideal S147456 .f32) : ∃ m : Fin 147456, Peak (fun n => (V (ix1 n) : EReal)) (V (ix1 m)) m
    ∧ ∀ e : Fin 2, crown V (ix1 e) = coordAt (V (ix1 m)) m e := by
  obtain ⟨m, hm, hf⟩ := first_peak V
  refine ⟨m, hm, fun e => ?_⟩
  have hw : ∀ j, width j = 384#32 := fun j => by
    show Scalar.select (IntOp.cmpi .eq 384#32 0#32) 1#32 384#32 = 384#32
    decide
  have hr : ∀ j, Host.remsi (first V) width j = BitVec.ofNat 32 (m % 384) := fun j => by
    show IntOp.remsi .host (first V j) (width j) = _
    rw [hf, hw, remsi_small _ m.isLt]
  have hq : ∀ j, Host.divsi (first V) (constantI S_ 32 384#32) j = BitVec.ofNat 32 (m / 384) := fun j => by
    show IntOp.divsi .host (first V j) 384#32 = _
    rw [hf, divsi_small _ m.isLt]
  have hnn : ∀ a : ℕ, a < 147456 → (BitVec.ofNat 32 a).slt 0#32 = false := fun a ha => by
    rw [Bool.eq_false_iff, ne_eq, BitVec.slt_iff_toInt_lt, toInt_small _ ha]; simp
  have hrem : ∀ j, remBy (first V) j = BitVec.ofNat 32 (m % 384) := fun j => by
    show Scalar.select (IntOp.andi (IntOp.cmpi .ne (IntOp.cmpi .slt (Host.remsi (first V) width j) 0#32) (IntOp.cmpi .slt (width j) 0#32))
        (IntOp.cmpi .ne (Host.remsi (first V) width j) 0#32)) (IntOp.addi (Host.remsi (first V) width j) (width j)) (Host.remsi (first V) width j) = _
    rw [hr, hw]
    simp [IntOp.cmpi, IntOp.andi, Scalar.select, hnn (m % 384) (by omega)]
  have hquot : ∀ j, quotBy (first V) j = BitVec.ofNat 32 (m / 384) := fun j => by
    have hs : signi (first V) j = if (m : ℕ) = 0 then 0#32 else 1#32 := by
      show (if first V j = 0 then 0 else if (first V j).msb then -1 else 1) = _
      rw [hf]
      have h1 : (BitVec.ofNat 32 (m : ℕ)).msb = false := by
        rw [BitVec.msb_eq_false_iff_two_mul_lt, BitVec.toNat_ofNat]; omega
      rw [h1]
      refine if_congr ?_ rfl rfl
      rw [← BitVec.toNat_inj, BitVec.toNat_ofNat]
      show (m : ℕ) % 2 ^ 32 = 0 ↔ _
      omega
    have hm0 : Host.remsi (first V) (constantI S_ 32 384#32) j = BitVec.ofNat 32 (m % 384) := by
      show IntOp.remsi .host (first V j) 384#32 = _
      rw [hf, remsi_small _ m.isLt]
    show Scalar.select (IntOp.andi (IntOp.cmpi .ne (signi (first V) j) (signi (constantI S_ 32 384#32) j))
        (IntOp.cmpi .ne (Host.remsi (first V) (constantI S_ 32 384#32) j) 0#32))
      (IntOp.subi (Host.divsi (first V) (constantI S_ 32 384#32) j) 1#32) (Host.divsi (first V) (constantI S_ 32 384#32) j) = _
    rw [hs, hm0, hq, show signi (constantI S_ 32 384#32) j = 1#32 from by show (if (384#32) = 0 then (0 : BitVec 32) else if (384#32).msb then -1 else 1) = 1#32; decide]
    by_cases h : (m : ℕ) = 0
    · simp [h, IntOp.cmpi, IntOp.andi, Scalar.select]
    · simp [h, IntOp.cmpi, IntOp.andi, Scalar.select]
  unfold crown coordAt
  have hc : (cmpf .ogt (Host.reduce FloatOps.maximumf V (constant (F := Ideal) S_ .f32 0xFF800000#32) reducesTo_S147456_S_d0 h_S_)
        (constant (F := Ideal) S_ .f32 0x42C80000#32)) = fun _ => BitVec.ofBool (decide (Ideal.ofBits .f32 0x42C80000#32 < (V (ix1 m) : EReal))) :=
    funext fun j => above_at _ _ j _ _ (most_peak V m hm j) rfl
  have hrf : remBy (first V) = fun _ => BitVec.ofNat 32 (m % 384) := funext hrem
  have hqf : quotBy (first V) = fun _ => BitVec.ofNat 32 (m / 384) := funext hquot
  rw [hc, hrf, hqf]
  by_cases h : Ideal.ofBits .f32 0x42C80000#32 < (V (ix1 m) : EReal)
  · rw [if_pos h]
    fin_cases e
    · pointwise; exact if_pos h
    · pointwise; exact if_pos h
  · rw [if_neg h]
    pointwise; exact if_neg h

end Cert.ReferenceIdeal.Val
-- ==== Proof.RefCentre.lean ====
/- The reference's centre of a class: the first cell with the most votes scattered by the class's pixels. -/
module

public import proofs.«01_k».proof.Proof.RefRun
public import proofs.«01_k».proof.Proof.RefTally
public import proofs.«01_k».proof.Proof.Cell

@[expose] public section

set_option maxRecDepth 16384

noncomputable section

namespace Cert.ReferenceIdeal.Val

open Idealize.ShloMosaic Idealize.ShloMosaic.TcCoe Idealize.SL.Sem
open Cert.ReferenceIdeal Cert.ReferenceIdeal.Gen Cert.Spec

/-- The reference's cell along one axis for a real direction. -/
theorem cell_eq (p : Fin 384) (r : ℝ) : cell p (r : EReal) = BitVec.ofNat 32 (cellOf p r) := by
  have h0 : (FloatOps.sitofp (F := Ideal) .f32 0#32 : EReal) = ((0 : ℝ) : EReal) := by
    show (((0#32).toInt : ℝ) : EReal) = _
    norm_num
  have h3 : (FloatOps.sitofp (F := Ideal) .f32 383#32 : EReal) = ((383 : ℝ) : EReal) := by
    show (((383#32).toInt : ℝ) : EReal) = _
    rw [show (383#32).toInt = 383 from by decide]; norm_num
  have hp : (FloatOps.sitofp (F := Ideal) .f32 (BitVec.ofNat 32 p) : EReal) = (((p : ℕ) : ℝ) : EReal) := by
    show (((BitVec.ofNat 32 p).toInt : ℝ) : EReal) = _
    rw [toInt_small _ (by omega)]; norm_cast
  unfold cell
  rw [h0, h3, hp]
  exact fptosi_kept p r

/-- The centre the reference finds for class `k` of image `n`, when the field's two components there are the reals `fx` and `fy`. -/
theorem centre_at (D : FVec Ideal S2x2x384x384 .f32) (L : IVec S2x384x384 32) (n : Fin 2) (k : BitVec 32) (fx fy : Fin 384 → Fin 384 → ℝ)
    (hx : ∀ y x, |fx y x| ≤ 1 ∧ (D (ix4 n 0 y x) : EReal) = (fx y x : EReal)) (hy : ∀ y x, |fy y x| ≤ 1 ∧ (D (ix4 n 1 y x) : EReal) = (fy y x : EReal)) :
    ∃ M m, Peak (fun i => scattered (fun y x => L (ix3 n y x) = k) (fun y x => cellOf y (fy y x)) (fun y x => cellOf x (fx y x)) (rowOf i) (colOf i)) M m
      ∧ ∀ e : Fin 2, centre D L n k (ix1 e) = coordAt M m e := by
  have hR : ∀ y x, cellOf y (fy y x) < 384 := fun y x => (cellOf_near y _ (hy y x).1).1
  have hC : ∀ y x, cellOf x (fx y x) < 384 := fun y x => (cellOf_near x _ (hx y x).1).1
  have hplace : ∀ i : Fin 147456, placeAt D n i
      = BitVec.ofNat 32 (384 * cellOf (rowOf i) (fy (rowOf i) (colOf i)) + cellOf (colOf i) (fx (rowOf i) (colOf i))) := fun i => by
    show IntOp.addi (IntOp.muli (cell (rowOf i) (D (ix4 n 1 (rowOf i) (colOf i)))) 384#32) (cell (colOf i) (D (ix4 n 0 (rowOf i) (colOf i)))) = _
    rw [(hx _ _).2, (hy _ _).2, cell_eq, cell_eq]
    unfold IntOp.addi IntOp.muli
    rw [BitVec.ofNat_add, BitVec.ofNat_mul, mul_comm]
  have hV : ∀ p : Fin 147456, (tally (fun i => placeAt D n (i 0)) (fun i => memberAt L n k (i 0)) (ix1 p) : EReal)
      = scattered (fun y x => L (ix3 n y x) = k) (fun y x => cellOf y (fy y x)) (fun y x => cellOf x (fx y x)) (rowOf p) (colOf p) := fun p => by
    rw [tally_at (fun i => placeAt D n (i 0)) _ (fun i => by have := hR (rowOf i) (colOf i); have := hC (rowOf i) (colOf i); omega) hplace]
    unfold scattered
    refine Fintype.sum_equiv places _ _ fun i => ?_
    have h1 := hR (rowOf i) (colOf i)
    have h2 := hC (rowOf i) (colOf i)
    have hm : memberAt L n k i = vote (L (ix3 n (rowOf i) (colOf i)) = k) := by
      show (((IntOp.cmpi .eq (L (ix3 n (rowOf i) (colOf i))) k).toNat : ℝ) : EReal) = _
      unfold vote IntOp.cmpi
      by_cases h : L (ix3 n (rowOf i) (colOf i)) = k <;> simp [h]
    show (if _ = (p : ℕ) then memberAt L n k i else 0) = vote (L (ix3 n (rowOf i) (colOf i)) = k ∧ cellOf (rowOf i) (fy (rowOf i) (colOf i)) = rowOf p
      ∧ cellOf (colOf i) (fx (rowOf i) (colOf i)) = colOf p)
    rw [hm]
    unfold vote
    rw [← ite_and]
    refine if_congr ?_ rfl rfl
    have hr : (rowOf p : ℕ) = p / 384 := rfl
    have hc : (colOf p : ℕ) = p % 384 := rfl
    rw [hr, hc]
    constructor
    · rintro ⟨h, h'⟩; exact ⟨h', by omega, by omega⟩
    · rintro ⟨h', h, h''⟩; exact ⟨by omega, h'⟩
  obtain ⟨m, hm, hc⟩ := crown_at (tally (fun i => placeAt D n (i 0)) (fun i => memberAt L n k (i 0)))
  refine ⟨_, m, ?_, hc⟩
  rw [show (fun i : Fin 147456 => scattered (fun y x => L (ix3 n y x) = k) (fun y x => cellOf y (fy y x)) (fun y x => cellOf x (fx y x)) (rowOf i) (colOf i))
    = fun i => (tally (fun i => placeAt D n (i 0)) (fun i => memberAt L n k (i 0)) (ix1 i) : EReal) from funext fun i => (hV i).symm]
  exact hm

end Cert.ReferenceIdeal.Val
-- ==== Proof.Agree.lean ====
/- The kernel's two results are the reference's, on equal arguments. -/
module

public import proofs.«01_k».proof.Defs
public import proofs.«01_k».proof.Proof.Gen.ReferenceIdeal
public import proofs.«01_k».proof.Proof.Centre
public import proofs.«01_k».proof.Proof.KernelRun
public import proofs.«01_k».proof.Proof.RefCentre
public import proofs.«01_k».proof.Proof.RefRun

@[expose] public section

set_option maxRecDepth 16384

noncomputable section

namespace Cert.Agree

open Idealize.ShloMosaic Idealize.ShloMosaic.TcCoe Idealize.SL.Sem Cert.Spec
open Cert.KernelIdeal.Val (unitK fieldK eps2)
open Cert.ReferenceIdeal.Val (unitR fieldOf centre)

/-- The kernel's named bound is the square of the reference's bound. -/
theorem eps2_eq : eps2 = ((epsR * epsR : ℝ) : EReal) :=
  (IdealRules.named_const.ideal_named_scalar _ _ _ _ rfl).trans (congrArg Real.toEReal epsR_sq.symm)

/-- The kernel's normalising is the reference's. -/
theorem unit_eq (d d0 d1 : EReal) : unitK d d0 d1 = unitR d d0 d1 := by
  unfold unitK unitR
  rw [eps2_eq, epsR_bits]
  exact normalised d d0 d1

/-- Both normalised components are reals of size at most 1. -/
theorem unit_small (d0 d1 : EReal) : ∃ r : ℝ × ℝ, (|r.1| ≤ 1 ∧ unitK d0 d0 d1 = (r.1 : EReal)) ∧ |r.2| ≤ 1 ∧ unitK d1 d0 d1 = (r.2 : EReal) := by
  obtain ⟨r, hr, e⟩ := normalised_small d0 d1
  obtain ⟨s, hs, e'⟩ := normalised_small d1 d0
  rw [add_comm] at e'
  unfold unitK
  rw [eps2_eq]
  exact ⟨(r, s), ⟨hr, e⟩, hs, e'⟩

variable (m : (ℓ : Loc KernelIdeal.nD KernelIdeal.τ KernelIdeal.sig) → Buf (Elt Ideal) ℓ) (ρ : Dev KernelIdeal.nD → PrngReg)
  (m' : (ℓ : Loc ReferenceIdeal.nD ReferenceIdeal.τ ReferenceIdeal.sig) → Buf (Elt Ideal) ℓ) (c : Dev KernelIdeal.nD)

/-- The two programs start from equal arguments on a device. -/
def Same : Prop :=
  m' ((c.tc : Thread ReferenceIdeal.nD ReferenceIdeal.τ).loc ReferenceIdeal.main_arg0) = m ((c.tc : Thread KernelIdeal.nD KernelIdeal.τ).loc KernelIdeal.main_arg0)
  ∧ m' ((c.tc : Thread ReferenceIdeal.nD ReferenceIdeal.τ).loc ReferenceIdeal.main_arg1) = m ((c.tc : Thread KernelIdeal.nD KernelIdeal.τ).loc KernelIdeal.main_arg1)
  ∧ m' ((c.tc : Thread ReferenceIdeal.nD ReferenceIdeal.τ).loc ReferenceIdeal.main_arg2) = m ((c.tc : Thread KernelIdeal.nD KernelIdeal.τ).loc KernelIdeal.main_arg2)
  ∧ m' ((c.tc : Thread ReferenceIdeal.nD ReferenceIdeal.τ).loc ReferenceIdeal.main_arg3) = m ((c.tc : Thread KernelIdeal.nD KernelIdeal.τ).loc KernelIdeal.main_arg3)
  ∧ m' ((c.tc : Thread ReferenceIdeal.nD ReferenceIdeal.τ).loc ReferenceIdeal.main_arg4) = m ((c.tc : Thread KernelIdeal.nD KernelIdeal.τ).loc KernelIdeal.main_arg4)
  ∧ m' ((c.tc : Thread ReferenceIdeal.nD ReferenceIdeal.τ).loc ReferenceIdeal.main_arg5) = m ((c.tc : Thread KernelIdeal.nD KernelIdeal.τ).loc KernelIdeal.main_arg5)
  ∧ m' ((c.tc : Thread ReferenceIdeal.nD ReferenceIdeal.τ).loc ReferenceIdeal.main_arg6) = m ((c.tc : Thread KernelIdeal.nD KernelIdeal.τ).loc KernelIdeal.main_arg6)
  ∧ m' ((c.tc : Thread ReferenceIdeal.nD ReferenceIdeal.τ).loc ReferenceIdeal.main_arg7) = m ((c.tc : Thread KernelIdeal.nD KernelIdeal.τ).loc KernelIdeal.main_arg7)
  ∧ m' ((c.tc : Thread ReferenceIdeal.nD ReferenceIdeal.τ).loc ReferenceIdeal.main_arg8) = m ((c.tc : Thread KernelIdeal.nD KernelIdeal.τ).loc KernelIdeal.main_arg8)
  ∧ m' ((c.tc : Thread ReferenceIdeal.nD ReferenceIdeal.τ).loc ReferenceIdeal.main_arg9) = m ((c.tc : Thread KernelIdeal.nD KernelIdeal.τ).loc KernelIdeal.main_arg9)

variable {m m' c}

/-- The direction field before normalising is the same. -/
theorem field_eq (h : Same m m' c) : fieldOf (StableHlo.launchContents m' c) = fieldK m c := by
  obtain ⟨h0, -, h2, h3, h4, h5, h6, h7, h8, h9⟩ := h
  show field (fun n y x k => m' ((c.tc : Thread ReferenceIdeal.nD ReferenceIdeal.τ).loc ReferenceIdeal.main_arg0) (ix4 n k y x))
    (fun o i j k => m' ((c.tc : Thread ReferenceIdeal.nD ReferenceIdeal.τ).loc ReferenceIdeal.main_arg2) (ix4 o k i j))
    (fun o => m' ((c.tc : Thread ReferenceIdeal.nD ReferenceIdeal.τ).loc ReferenceIdeal.main_arg3) (ix1 o))
    (fun o i j k => m' ((c.tc : Thread ReferenceIdeal.nD ReferenceIdeal.τ).loc ReferenceIdeal.main_arg4) (ix4 o k i j))
    (fun o => m' ((c.tc : Thread ReferenceIdeal.nD ReferenceIdeal.τ).loc ReferenceIdeal.main_arg5) (ix1 o))
    (fun o i j k => m' ((c.tc : Thread ReferenceIdeal.nD ReferenceIdeal.τ).loc ReferenceIdeal.main_arg6) (ix4 o k i j))
    (fun o => m' ((c.tc : Thread ReferenceIdeal.nD ReferenceIdeal.τ).loc ReferenceIdeal.main_arg7) (ix1 o))
    (fun k o => m' ((c.tc : Thread ReferenceIdeal.nD ReferenceIdeal.τ).loc ReferenceIdeal.main_arg8) (ix4 k o 0 0))
    (fun k => m' ((c.tc : Thread ReferenceIdeal.nD ReferenceIdeal.τ).loc ReferenceIdeal.main_arg9) (ix1 k)) = _
  rw [h0, h2, h3, h4, h5, h6, h7, h8, h9]
  rfl

/-- The first result: what the reference's contract leaves there is what the kernel leaves. -/
theorem first_eq (h : Same m m' c) (D : FVec Ideal ReferenceIdeal.S2x2x384x384 .f32)
    (hD : ∀ (n k : Fin 2) (y x : Fin 384), D (ix4 n k y x) = unitR (fieldOf (StableHlo.launchContents m' c) n y x k)
      (fieldOf (StableHlo.launchContents m' c) n y x 0) (fieldOf (StableHlo.launchContents m' c) n y x 1)) :
    D = KernelIdeal.Gen.W8 m ρ c (Proc.devRef .tc KernelIdeal.main_v24) := by
  funext i
  obtain ⟨n, k, y, x, rfl⟩ : ∃ (n k : Fin 2) (y x : Fin 384), i = ix4 n k y x := ⟨_, _, _, _, eq_ix4 i⟩
  rw [hD, field_eq h, ← unit_eq]
  exact (KernelIdeal.Val.result1 m ρ c n k y x).symm

/-- The word the kernel leaves for a coordinate of a class's centre is the reference's. -/
theorem centre_eq (h : Same m m' c) (D : FVec Ideal ReferenceIdeal.S2x2x384x384 .f32)
    (hD : ∀ (n k : Fin 2) (y x : Fin 384), D (ix4 n k y x) = unitR (fieldOf (StableHlo.launchContents m' c) n y x k)
      (fieldOf (StableHlo.launchContents m' c) n y x 0) (fieldOf (StableHlo.launchContents m' c) n y x 1))
    (n k e : Fin 2) (w : BitVec 32) (hw : w = if k = 0 then 1#32 else 2#32) :
    centre D (ReferenceIdeal.Val.Mem.at (StableHlo.launchContents m' c) ReferenceIdeal.main_arg1) n w (ix1 e)
      = KernelIdeal.Gen.W8 m ρ c (Proc.devRef .tc KernelIdeal.main_v25) (ix3 n k e) := by
  choose f hf using fun y x => unit_small (fieldK m c n y x 0) (fieldK m c n y x 1)
  have hL : ReferenceIdeal.Val.Mem.at (StableHlo.launchContents m' c) ReferenceIdeal.main_arg1
      = KernelIdeal.Gen.V7 m ρ c KernelIdeal.main_arg1 :=
    Eq.trans (show _ = _ from h.2.1) (KernelIdeal.Gen.W7_args m ρ c KernelIdeal.main_arg1 (by decide)).symm
  have hDx : ∀ y x, |(f y x).1| ≤ 1 ∧ (D (ix4 n 0 y x) : EReal) = ((f y x).1 : EReal) := fun y x =>
    ⟨(hf y x).1.1, by rw [hD, field_eq h, ← unit_eq]; exact (hf y x).1.2⟩
  have hDy : ∀ y x, |(f y x).2| ≤ 1 ∧ (D (ix4 n 1 y x) : EReal) = ((f y x).2 : EReal) := fun y x =>
    ⟨(hf y x).2.1, by rw [hD, field_eq h, ← unit_eq]; exact (hf y x).2.2⟩
  have hKx : ∀ y x, |(f y x).1| ≤ 1 ∧ (KernelIdeal.Gen.V7 m ρ c KernelIdeal.main_v21_0 (ix3 n y x) : EReal) = ((f y x).1 : EReal) := fun y x =>
    ⟨(hf y x).1.1, (congrFun (KernelIdeal.Gen.W7_of m ρ c KernelIdeal.main_v21_0 (by decide)) _).trans
      ((KernelIdeal.Val.left_x m ρ c n y x).trans (hf y x).1.2)⟩
  have hKy : ∀ y x, |(f y x).2| ≤ 1 ∧ (KernelIdeal.Gen.V7 m ρ c KernelIdeal.main_v21_1 (ix3 n y x) : EReal) = ((f y x).2 : EReal) := fun y x =>
    ⟨(hf y x).2.1, (congrFun (KernelIdeal.Gen.W7_of m ρ c KernelIdeal.main_v21_1 (by decide)) _).trans
      ((KernelIdeal.Val.left_y m ρ c n y x).trans (hf y x).2.2)⟩
  rw [hL]
  obtain ⟨M, i, hp, hc⟩ := ReferenceIdeal.Val.centre_at D (KernelIdeal.Gen.V7 m ρ c KernelIdeal.main_arg1) n w _ _ hDx hDy
  obtain ⟨M', i', hp', hc'⟩ := KernelIdeal.Val.stored_at (KernelIdeal.Gen.V7 m ρ) c n k e _ _ hKx hKy w hw
  obtain ⟨rfl, rfl⟩ := hp.unique hp'
  refine (hc e).trans ((hc' e).symm.trans ?_)
  exact (congrFun ((KernelIdeal.Gen.W8_arr m ρ c 3).trans (KernelIdeal.Val.arr3 (KernelIdeal.Gen.V7 m ρ) c)) (ix3 n k e)).symm

/-- The second result: what the reference's contract leaves there is what the kernel leaves. -/
theorem second_eq (h : Same m m' c) (D : FVec Ideal ReferenceIdeal.S2x2x384x384 .f32) (C : IVec ReferenceIdeal.S2x2x2 32)
    (hD : ∀ (n k : Fin 2) (y x : Fin 384), D (ix4 n k y x) = unitR (fieldOf (StableHlo.launchContents m' c) n y x k)
      (fieldOf (StableHlo.launchContents m' c) n y x 0) (fieldOf (StableHlo.launchContents m' c) n y x 1))
    (hC : ∀ n e : Fin 2, C (ix3 n 0 e) = centre D (ReferenceIdeal.Val.Mem.at (StableHlo.launchContents m' c) ReferenceIdeal.main_arg1) n 1#32 (ix1 e)
      ∧ C (ix3 n 1 e) = centre D (ReferenceIdeal.Val.Mem.at (StableHlo.launchContents m' c) ReferenceIdeal.main_arg1) n 2#32 (ix1 e)) :
    C = KernelIdeal.Gen.W8 m ρ c (Proc.devRef .tc KernelIdeal.main_v25) := by
  funext i
  obtain ⟨n, k, e, rfl⟩ : ∃ n k e : Fin 2, i = ix3 n k e := ⟨_, _, _, eq_ix3 i⟩
  obtain rfl | rfl : k = 0 ∨ k = 1 := by omega
  · exact ((hC n e).1).trans (centre_eq ρ h D hD n 0 e _ rfl)
  · exact ((hC n e).2).trans (centre_eq ρ h D hD n 1 e _ rfl)

/-- On equal arguments the kernel and the reference end with equal results. -/
theorem algebraic : Cert.algebraic_KernelIdeal_ReferenceIdeal (hKernelIdeal := Cert.KernelIdeal.Gen.facts) (hReferenceIdeal := Cert.ReferenceIdeal.Gen.facts) :=
  fun m g m' g' _ h => ⟨fun c => KernelIdeal.Gen.W8 m g c (Proc.devRef .tc KernelIdeal.main_v24),
    fun c => KernelIdeal.Gen.W8 m g c (Proc.devRef .tc KernelIdeal.main_v25),
    θ_run_mono (KernelIdeal.Val.results m g) fun r hr c =>
      ⟨(hr c).1, (hr c).2.1, (hr c).2.2 _ (by decide), (hr c).2.2 _ (by decide), (hr c).2.2 _ (by decide), (hr c).2.2 _ (by decide),
        (hr c).2.2 _ (by decide), (hr c).2.2 _ (by decide), (hr c).2.2 _ (by decide), (hr c).2.2 _ (by decide), (hr c).2.2 _ (by decide),
        (hr c).2.2 _ (by decide)⟩,
    θ_run_mono (ReferenceIdeal.Val.run m' g') fun r hr c => by
      obtain ⟨σ, hb, ⟨k0, k1, k2, k3, k4, k5, k6, k7, k8, k9⟩, h1, h2⟩ := hr.1 c
      exact ⟨(hb _).trans (first_eq g (h c) _ h1), (hb _).trans (second_eq g (h c) _ _ h1 h2),
        (hb _).trans k0, (hb _).trans k1, (hb _).trans k2, (hb _).trans k3, (hb _).trans k4, (hb _).trans k5, (hb _).trans k6,
        (hb _).trans k7, (hb _).trans k8, (hb _).trans k9⟩⟩

end Cert.Agree
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.RefRun
public import proofs.«01_k».proof.Proof.Agree

public import Idealize.ShloMosaic.Adequacy
public import Idealize.ShloMosaic.Init

@[expose] public section

noncomputable section

namespace Cert.Proof

open Idealize.ShloMosaic Idealize.SL.Sem Cert.Kernel

/-- The reference ends idle with its arguments as launched. -/
theorem reference_frame : Cert.quiescent_ReferenceIdeal (hReferenceIdeal := Cert.ReferenceIdeal.Gen.facts) := fun m g _ =>
  θ_run_mono (Cert.ReferenceIdeal.Val.run m g) fun r h => ⟨fun c => by
    obtain ⟨σ, hb, ⟨k0, k1, k2, k3, k4, k5, k6, k7, k8, k9⟩, -⟩ := h.1 c
    exact ⟨(hb _).trans k0, (hb _).trans k1, (hb _).trans k2, (hb _).trans k3, (hb _).trans k4, (hb _).trans k5, (hb _).trans k6,
      (hb _).trans k7, (hb _).trans k8, (hb _).trans k9⟩, h.2⟩

/-- The named constant is the value the ideal programs read it as. -/
theorem named_kept : Cert.preserves_Kernel_KernelIdeal := IdealRules.named_const.statement _ _ _ _ _ rfl

/-- Everything the certificate states. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, reference_frame, named_kept, Cert.Agree.algebraic⟩

end Cert.Proof

end
